-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .f32) (main_arg1 : FVec F S128x64 .f32) (main_arg2 : IVec S256x2 32) (main_arg3 : FVec F S2x128x256 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 64#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Pre_in_range_ReferenceIdeal.lean ====
abbrev S256x128 : Shape := ⟨2, ![256, 128]⟩
abbrev S128x64 : Shape := ⟨2, ![128, 64]⟩
abbrev S256x2 : Shape := ⟨2, ![256, 2]⟩
abbrev S64x128x256 : Shape := ⟨3, ![64, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .f32) (main_arg1 : FVec F S128x64 .f32) (main_arg2 : IVec S256x2 32) (main_arg3 : FVec F S64x128x256 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 64#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Kernel.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S256x256 : Shape := ⟨2, ![256, 256]⟩
abbrev S5x256x256 : Shape := ⟨3, ![5, 256, 256]⟩
abbrev S_ : Shape := ⟨0, ![]⟩
abbrev S5 : Shape := ⟨1, ![5]⟩
abbrev S256x64 : Shape := ⟨2, ![256, 64]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1 : Shape := ⟨1, ![1]⟩
abbrev S1x256x256 : Shape := ⟨3, ![1, 256, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x2, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x64, .f32⟩
  | .local _ .vmem, ⟨2, _⟩ => ⟨S256x2, .i32⟩
  | .local _ .vmem, ⟨3, _⟩ => ⟨S2x128x256, .f32⟩
  | .local _ .vmem, ⟨4, _⟩ => ⟨S256x256, .f32⟩
  | .local _ .vmem, ⟨5, _⟩ => ⟨S256x256, .f32⟩
  | .local _ .vmem, ⟨6, _⟩ => ⟨S5x256x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let v88 : BitVec 32 := Scalar.xori v2 c1_i32_44
  let c1_i32_49 : BitVec 32 := 1#32
  let v92 : BitVec 32 := Scalar.muli v88 c1_i32_49
  let v93 : BitVec 32 := Scalar.addi c0_i32_50 v92
  v93.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_67 : BitVec 32 := 2#32
  let v109 : BitVec 32 := Scalar.xori v2 c2_i32_67
  let c1_i32_72 : BitVec 32 := 1#32
  let v113 : BitVec 32 := Scalar.muli v109 c1_i32_72
  let v114 : BitVec 32 := Scalar.addi c0_i32_73 v113
  v114.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_90 : BitVec 32 := 4#32
  let v130 : BitVec 32 := Scalar.xori v2 c4_i32_90
  let c1_i32_95 : BitVec 32 := 1#32
  let v134 : BitVec 32 := Scalar.muli v130 c1_i32_95
  let v135 : BitVec 32 := Scalar.addi c0_i32_96 v134
  v135.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_112 : BitVec 32 := 8#32
  let v151 : BitVec 32 := Scalar.xori v2 c8_i32_112
  let c1_i32_116 : BitVec 32 := 1#32
  let v155 : BitVec 32 := Scalar.muli v151 c1_i32_116
  let v156 : BitVec 32 := Scalar.addi c0_i32_117 v155
  v156.toNat
def k0_dev10 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_133 : BitVec 32 := 16#32
  let v172 : BitVec 32 := Scalar.xori v2 c16_i32_133
  let c1_i32_138 : BitVec 32 := 1#32
  let v176 : BitVec 32 := Scalar.muli v172 c1_i32_138
  let v177 : BitVec 32 := Scalar.addi c0_i32_139 v176
  v177.toNat
def k0_dev11 (d0 : Dev nD) : Nat :=
  let c0_i32_160_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_157_r0 : BitVec 32 := 1#32
  let v195_r0 : BitVec 32 := Scalar.xori v2 c1_i32_157_r0
  let c1_i32_159_r0 : BitVec 32 := 1#32
  let v196_r0 : BitVec 32 := Scalar.muli v195_r0 c1_i32_159_r0
  let v197_r0 : BitVec 32 := Scalar.addi c0_i32_160_r0 v196_r0
  v197_r0.toNat
def k0_dev12 (d0 : Dev nD) : Nat :=
  let c0_i32_164_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_161_r0 : BitVec 32 := 2#32
  let v198_r0 : BitVec 32 := Scalar.xori v2 c2_i32_161_r0
  let c1_i32_163_r0 : BitVec 32 := 1#32
  let v199_r0 : BitVec 32 := Scalar.muli v198_r0 c1_i32_163_r0
  let v200_r0 : BitVec 32 := Scalar.addi c0_i32_164_r0 v199_r0
  v200_r0.toNat
def k0_dev13 (d0 : Dev nD) : Nat :=
  let c0_i32_168_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_165_r0 : BitVec 32 := 4#32
  let v201_r0 : BitVec 32 := Scalar.xori v2 c4_i32_165_r0
  let c1_i32_167_r0 : BitVec 32 := 1#32
  let v202_r0 : BitVec 32 := Scalar.muli v201_r0 c1_i32_167_r0
  let v203_r0 : BitVec 32 := Scalar.addi c0_i32_168_r0 v202_r0
  v203_r0.toNat
def k0_dev14 (d0 : Dev nD) : Nat :=
  let c0_i32_172_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_169_r0 : BitVec 32 := 8#32
  let v204_r0 : BitVec 32 := Scalar.xori v2 c8_i32_169_r0
  let c1_i32_171_r0 : BitVec 32 := 1#32
  let v205_r0 : BitVec 32 := Scalar.muli v204_r0 c1_i32_171_r0
  let v206_r0 : BitVec 32 := Scalar.addi c0_i32_172_r0 v205_r0
  v206_r0.toNat
def k0_dev15 (d0 : Dev nD) : Nat :=
  let c0_i32_176_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_173_r0 : BitVec 32 := 16#32
  let v207_r0 : BitVec 32 := Scalar.xori v2 c16_i32_173_r0
  let c1_i32_175_r0 : BitVec 32 := 1#32
  let v208_r0 : BitVec 32 := Scalar.muli v207_r0 c1_i32_175_r0
  let v209_r0 : BitVec 32 := Scalar.addi c0_i32_176_r0 v208_r0
  v209_r0.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x2 : Shape := ⟨2, ![256, 2]⟩
abbrev S64x128x256 : Shape := ⟨3, ![64, 128, 256]⟩
abbrev S256x64 : Shape := ⟨2, ![256, 64]⟩
abbrev S_ : Shape := ⟨0, ![]⟩
abbrev S256 : Shape := ⟨1, ![256]⟩
abbrev S256x1 : Shape := ⟨2, ![256, 1]⟩
abbrev S256x128x256 : Shape := ⟨3, ![256, 128, 256]⟩
abbrev S256x256 : Shape := ⟨2, ![256, 256]⟩

abbrev nBuf : Space → Nat
  | .hbm => 87
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x2, .i32⟩
  | .hbm, ⟨3, _⟩ => ⟨S64x128x256, .f32⟩
  | .hbm, ⟨4, _⟩ => ⟨S256x64, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x64, .f32⟩
  | .hbm, ⟨9, _⟩ => ⟨S256x64, .f32⟩
  | .hbm, ⟨10, _⟩ => ⟨S256x64, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x64, .f32⟩
  | .hbm, ⟨15, _⟩ => ⟨S256x64, .f32⟩
  | .hbm, ⟨16, _⟩ => ⟨S256x1, .i32⟩
  | .hbm, ⟨17, _⟩ => ⟨S256, .i32⟩
  | .hbm, ⟨18, _⟩ => ⟨S256x1, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S256x1, .i32⟩
  | .hbm, ⟨37, _⟩ => ⟨S256x2, .i32⟩
  | .hbm, ⟨38, _⟩ => ⟨S256, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256x1, .i32⟩
  | .hbm, ⟨55, _⟩ => ⟨S256x2, .i32⟩
  | .hbm, ⟨56, _⟩ => ⟨S256, .f32⟩
  | .hbm, ⟨57, _⟩ => ⟨S256, .f32⟩
  | .hbm, ⟨58, _⟩ => ⟨S_, .i32⟩
  | .hbm, ⟨59, _⟩ => ⟨S256, .i32⟩
  | .hbm, ⟨60, _⟩ => ⟨S256, .i1⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S256x1, .i32⟩
  | .hbm, ⟨66, _⟩ => ⟨S256x128x256, .f32⟩
  | .hbm, ⟨67, _⟩ => ⟨S256x256, .f32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S256x128x256, .f32⟩
  | .hbm, ⟨77, _⟩ => ⟨S256x256, .f32⟩
  | .hbm, ⟨78, _⟩ => ⟨S256, .f32⟩
  | .hbm, ⟨79, _⟩ => ⟨S256x1, .f32⟩
  | .hbm, ⟨80, _⟩ => ⟨S256x256, .f32⟩
  | .hbm, ⟨81, _⟩ => ⟨S256x256, .f32⟩
  | .hbm, ⟨82, _⟩ => ⟨S256, .f32⟩
  | .hbm, ⟨83, _⟩ => ⟨S256x1, .f32⟩
  | .hbm, ⟨84, _⟩ => ⟨S256x256, .f32⟩
  | .hbm, ⟨85, _⟩ => ⟨S256x256, .f32⟩
  | .hbm, ⟨86, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Sched.lean ====
/-
# The exchange across the hypercube: cells, schedule, dues

Thirty-two devices sum their partial results in five steps. In step `r` device `c` and device `peer r c` — whose number
differs from `c`'s in bit `r` alone — send each other what they have summed so far and add what they receive. Before the
first step each device tells its five partners that it has entered, after the last it tells them that it is through.

Here are the partners, the semaphore cells with what is paid into each and what a payment carries, the values every
device holds after each step, and what a device still owes at each point of its run.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB

local notation "𝕄" => MT nD τ sig Unit (Elt F) ℕ UU ℕ

/-- Where the staging protocol's ghost state lives, and where the exchange's does. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Partners -/

set_option backward.proofsInPublic true in
/-- The partner of device `c` in step `r`: bit `r` of the number flipped. -/
def peer (r : Fin 5) (c : Dev nD) : Dev nD :=
  ⟨c.val ^^^ 2 ^ r.val, Nat.xor_lt_two_pow (n := 5) c.isLt (Nat.pow_lt_pow_right (by decide) r.isLt)⟩

theorem peer_peer (r : Fin 5) (c : Dev nD) : peer r (peer r c) = c := by
  revert r c; decide +kernel

/-- Where the printed programs compute a target device, it is the partner of that step. -/
theorem dev_eqs (c : Dev nD) :
    ((⟨k0_dev1 c, k0_dev1_lt c⟩ : Dev nD) = peer 0 c ∧ (⟨k0_dev2 c, k0_dev2_lt c⟩ : Dev nD) = peer 1 c
      ∧ (⟨k0_dev3 c, k0_dev3_lt c⟩ : Dev nD) = peer 2 c ∧ (⟨k0_dev4 c, k0_dev4_lt c⟩ : Dev nD) = peer 3 c
      ∧ (⟨k0_dev5 c, k0_dev5_lt c⟩ : Dev nD) = peer 4 c)
    ∧ ((⟨k0_dev6 c, k0_dev6_lt c⟩ : Dev nD) = peer 0 c ∧ (⟨k0_dev7 c, k0_dev7_lt c⟩ : Dev nD) = peer 1 c
      ∧ (⟨k0_dev8 c, k0_dev8_lt c⟩ : Dev nD) = peer 2 c ∧ (⟨k0_dev9 c, k0_dev9_lt c⟩ : Dev nD) = peer 3 c
      ∧ (⟨k0_dev10 c, k0_dev10_lt c⟩ : Dev nD) = peer 4 c)
    ∧ ((⟨k0_dev11 c, k0_dev11_lt c⟩ : Dev nD) = peer 0 c ∧ (⟨k0_dev12 c, k0_dev12_lt c⟩ : Dev nD) = peer 1 c
      ∧ (⟨k0_dev13 c, k0_dev13_lt c⟩ : Dev nD) = peer 2 c ∧ (⟨k0_dev14 c, k0_dev14_lt c⟩ : Dev nD) = peer 3 c
      ∧ (⟨k0_dev15 c, k0_dev15_lt c⟩ : Dev nD) = peer 4 c) := by
  revert c; decide +kernel

/-! ## Buffers and semaphores -/

abbrev xM : Memref sig .tc .vmem S256x128 .f32 := Memref.whole cc0_stg0_0
abbrev rwM : Memref sig .tc .vmem S128x64 .f32 := Memref.whole cc0_stg1_0
abbrev ixM : Memref sig .tc .vmem S256x2 .i32 := Memref.whole cc0_stg2_0
abbrev ewM : Memref sig .tc .vmem S2x128x256 .f32 := Memref.whole cc0_stg3_0
abbrev outM : Memref sig .tc .vmem S256x256 .f32 := Memref.whole cc0_stg4_0
/-- The buffer sums are sent from, and the five buffers they arrive in. -/
abbrev sbM : Memref sig .tc .vmem S256x256 .f32 := Memref.whole cc0_scratch0
abbrev rbM : Memref sig .tc .vmem S5x256x256 .f32 := Memref.whole cc0_scratch1

theorem slot_inb (r : Fin 5) : ∀ a, (![r.val, 0, 0] : Fin 3 → Nat) a + S1x256x256.size a ≤ S5x256x256.size a := by
  revert r; decide
theorem sem_inb (r : Fin 5) : ∀ a, (![r.val] : Fin 1 → Nat) a + S1.size a ≤ S5.size a := by
  revert r; decide

/-- Step `r`'s part of the landing buffer. -/
abbrev slotRect (r : Fin 5) : Rect S5x256x256 := Rect.unit (s := S5x256x256) ![r.val, 0, 0] S1x256x256.size (slot_inb r)
abbrev slotM (r : Fin 5) : Memref sig .tc .vmem S256x256 .f32 :=
  (rbM.slice (slotRect r) (fun _ => rfl)).squeeze S256x256 squeezes_S1x256x256_S256x256

abbrev barS : Sem sig := (SemArray.scalar (sig.barrier 0 rfl) : Sems sig S_).sem
abbrev exitS : Sem sig := (cc0_scoped0 : Sems sig S_).sem
abbrev sendS : DmaSem sig := (cc0_scratch2 : DmaSems sig S_).sem
abbrev recvS (r : Fin 5) : DmaSem sig :=
  ((cc0_scratch3.slice (Rect.unit (s := S5) ![r.val] S1.size (sem_inb r))).squeeze S_ squeezes_S1_S_ : DmaSems sig S_).sem

theorem recvS_val (r : Fin 5) : (recvS r).val = 6 + r.val := by revert r; decide
theorem sendS_val : (sendS : DmaSem sig).val = 5 := by decide
theorem recvS_ne_sendS (r : Fin 5) : recvS r ≠ sendS := by revert r; decide

abbrev barCell (c : Dev nD) : GSem nD τ sig := ((c : Thread nD τ), .reg barS)
abbrev exitCell (c : Dev nD) : GSem nD τ sig := ((c : Thread nD τ), .reg exitS)
abbrev sendCell (c : Dev nD) : GSem nD τ sig := ((c : Thread nD τ), .dma sendS)
abbrev recvCell (r : Fin 5) (c : Dev nD) : GSem nD τ sig := ((c : Thread nD τ), .dma (recvS r))

/-- The eight cells of a device: barrier, exit, send, and the five arrivals. -/
def csem : Fin 8 → SemLoc sig := ![.reg barS, .reg exitS, .dma sendS, .dma (recvS 0), .dma (recvS 1), .dma (recvS 2), .dma (recvS 3), .dma (recvS 4)]
def kcell (ck : Dev nD × Fin 8) : GSem nD τ sig := ((ck.1 : Thread nD τ), csem ck.2)

theorem csem_inj : Function.Injective csem := by decide
theorem kcell_inj : Function.Injective kcell := fun a b h => by
  have h1 : (a.1 : Thread nD τ) = (b.1 : Thread nD τ) := congrArg Prod.fst h
  have h2 : csem a.2 = csem b.2 := congrArg Prod.snd h
  exact Prod.ext (congrArg (fun t : Thread nD τ => t.1) h1) (csem_inj h2)

/-- The credit of one transfer. -/
abbrev N : ℕ := (sbM : Memref sig .tc .vmem S256x256 .f32).view.dmaCredit
theorem N_pos : 0 < N := View.dmaCredit_pos _ (by decide)
theorem slot_credit (r : Fin 5) : (slotM r).view.dmaCredit = N := rfl

/-! ## Values -/

/-- Device `c`'s part of the result, from its two experts' weights: the kernel's own arithmetic. -/
def part (c : Dev nD) (x : Vec F S256x128 .f32) (rw : Vec F S128x64 .f32) (ix : Vec F S256x2 .i32) (ew : Vec F S2x128x256 .f32) :
    FVec F S256x256 .f32 :=
  have me : BitVec 32 := Scalar.remsi (Scalar.divsi (Dev.word c) 1#32) 32#32
  have s : FVec F S256x64 .f32 := k0_pay2 x rw
  have i0 : Vec F S256x1 .i32 := ixM.view.readAt (Elt F) (Rect.unit (s := S256x2) ![0, 0] S256x1.size inb_S256x2_S256x1_0_0).toLoadRect ix
  have i1 : Vec F S256x1 .i32 := ixM.view.readAt (Elt F) (Rect.unit (s := S256x2) ![0, 1] S256x1.size inb_S256x2_S256x1_0_1).toLoadRect ix
  have w0 : Vec F S1x128x256 .f32 := ewM.view.readAt (Elt F) (Rect.unit (s := S2x128x256) ![0, 0, 0] S1x128x256.size inb_S2x128x256_S1x128x256_0_0_0).toLoadRect ew
  have w1 : Vec F S1x128x256 .f32 := ewM.view.readAt (Elt F) (Rect.unit (s := S2x128x256) ![1, 0, 0] S1x128x256.size inb_S2x128x256_S1x128x256_1_0_0).toLoadRect ew
  k0_pay11 me (k0_pay1 x) (k0_pay4 i0) (k0_pay5 i1) (k0_pay6 s i0) (k0_pay7 s i1) (k0_pay8 s i0 i1) k0_pay9 (k0_pay10 me (k0_pay1 x) s i0 i1) w0 w1

def xAt (c : Dev nD) : (cc0_stg0_0 : Ref sig .tc).ty.Contents (Elt F) := (win0_0.blk (0 : Fin 1)).view.read (Elt F) (m ((c : Thread nD τ).loc main_arg0))
def rwAt (c : Dev nD) : (cc0_stg1_0 : Ref sig .tc).ty.Contents (Elt F) := (win0_1.blk (0 : Fin 1)).view.read (Elt F) (m ((c : Thread nD τ).loc main_arg1))
def ixAt (c : Dev nD) : (cc0_stg2_0 : Ref sig .tc).ty.Contents (Elt F) := (win0_2.blk (0 : Fin 1)).view.read (Elt F) (m ((c : Thread nD τ).loc main_arg2))
def ewAt (c : Dev nD) : (cc0_stg3_0 : Ref sig .tc).ty.Contents (Elt F) := (win0_3.blk (0 : Fin 1)).view.read (Elt F) (m ((c : Thread nD τ).loc main_arg3))

/-- What device `c` holds before step `r`: its own part, then each step the partner's sum added. -/
def acc : ℕ → Dev nD → FVec F S256x256 .f32
  | 0, c => part c (xAt m c) (rwAt m c) (ixAt m c) (ewAt m c)
  | r + 1, c => if h : r < 5 then addf (acc r c) (acc r (peer ⟨r, h⟩ c)) else acc r c

theorem acc_succ (r : Fin 5) (c : Dev nD) : acc m (r.val + 1) c = addf (acc m r.val c) (acc m r.val (peer r c)) := by
  rw [acc, dif_pos r.isLt]

/-! ## The schedule -/

/-- The landing buffer of step `r` on device `c`, with some contents. -/
def slotFree (r : Fin 5) (c : Dev nD) : sProp 𝕄 :=
  iprop(∃ f : Buf (Elt F) ((slotM r).view.loc (c : Thread nD τ)), (slotM r).view.loc (c : Thread nD τ) ↦[(slotM r).view.set]{fullShare} f)

/-- The landing buffer of step `r` on device `c`, holding `v`. -/
def slotHas (r : Fin 5) (c : Dev nD) (v : FVec F S256x256 .f32) : sProp 𝕄 :=
  iprop(∃ f : Buf (Elt F) ((slotM r).view.loc (c : Thread nD τ)), ⌜(slotM r).view.read (Elt F) f = v⌝
    ∗ (slotM r).view.loc (c : Thread nD τ) ↦[(slotM r).view.set]{fullShare} f)

/-- The send buffer of device `c`, holding `v`. -/
def sbHas (c : Dev nD) (v : FVec F S256x256 .f32) : sProp 𝕄 :=
  iprop(((c : Thread nD τ).loc cc0_scratch0) ↦{fullShare} (v : Buf (Elt F) ((c : Thread nD τ).loc cc0_scratch0)))

instance slotFree_storable (r : Fin 5) (c : Dev nD) : BI.Storable (upEmb : UEmb _ 𝕄) (slotFree (F := F) r c) := by unfold slotFree; infer_instance
instance slotHas_storable (r : Fin 5) (c : Dev nD) (v) : BI.Storable (upEmb : UEmb _ 𝕄) (slotHas (F := F) r c v) := by unfold slotHas; infer_instance
instance sbHas_storable (c : Dev nD) (v) : BI.Storable (upEmb : UEmb _ 𝕄) (sbHas (F := F) c v) := by unfold sbHas; infer_instance

/-- The step whose arrivals a DMA semaphore counts. -/
def stepOf (q : DmaSem sig) : Fin 5 := ⟨(q.val - 6) % 5, Nat.mod_lt _ (by decide)⟩
theorem stepOf_recvS (r : Fin 5) : stepOf (recvS r) = r := by revert r; decide

/-- How many rounds a DMA semaphore has: the send semaphore one a step, an arrival semaphore one. -/
def roundsOf (q : DmaSem sig) : ℕ := if q = sendS then 5 else 1
theorem roundsOf_sendS : roundsOf sendS = 5 := if_pos rfl
theorem roundsOf_recvS (r : Fin 5) : roundsOf (recvS r) = 1 := if_neg (recvS_ne_sendS r)

/-- The exchange's schedule. The barrier and the exit cell take one unit from each of five partners, in one round; an
    entering partner `peer r c` hands `c` its landing buffer of step `r`. The
    send cell takes one transfer's credit in each of five rounds, returning the send buffer; an arrival cell takes one
    transfer's credit in one round, with the partner's sum in the landing buffer. -/
def plan : Rounds.Schedule (GSem nD τ sig) (Fin 5) 𝕄 where
  duties g r := match g.2 with
    | .reg _ => if r = 0 ∧ g.1.2 = .tc then Finset.univ else ∅
    | .dma q => if g.1.2 = .tc ∧ r < roundsOf q then {0} else ∅
  unitless _ := False
  amount g _ _ := match g.2 with
    | .reg _ => 1
    | .dma _ => N
  payload g r d := match g.2 with
    | .reg s => if s = barS then slotFree d (peer d g.1.1) else iprop(emp)
    | .dma q => if q = sendS then sbHas g.1.1 (acc m r g.1.1)
        else slotHas (stepOf q) g.1.1 (acc m (stepOf q).val (peer (stepOf q) g.1.1))
  amount_pos g _ _ _ := by
    rcases g.2 with s | q
    · exact Nat.one_pos
    · exact N_pos

instance plan_payload_storable (g : GSem nD τ sig) (r : ℕ) (d : Fin 5) :
    BI.Storable (upEmb : UEmb _ 𝕄) ((plan (F := F) m).payload g r d) := by
  rcases g with ⟨t, s | q⟩
  · show BI.Storable upEmb (if s = barS then slotFree d (peer d t.1) else iprop(emp))
    split <;> infer_instance
  · show BI.Storable upEmb (if q = sendS then sbHas t.1 (acc m r t.1) else slotHas (stepOf q) t.1 (acc m (stepOf q).val (peer (stepOf q) t.1)))
    split <;> infer_instance

section Plan
variable (c : Dev nD)

theorem duties_reg (s : Sem sig) : (plan (F := F) m).duties ((c : Thread nD τ), .reg s) 0 = Finset.univ := by
  dsimp only [plan]; exact if_pos ⟨rfl, rfl⟩
theorem duties_send (r : Fin 5) : (plan (F := F) m).duties (sendCell c) r.val = {0} :=
  if_pos ⟨rfl, roundsOf_sendS.symm ▸ r.isLt⟩
theorem duties_recv (r : Fin 5) : (plan (F := F) m).duties (recvCell r c) 0 = {0} :=
  if_pos ⟨rfl, (roundsOf_recvS r).symm ▸ Nat.one_pos⟩

theorem later_reg (s : Sem sig) : ∀ r, 1 ≤ r → (plan (F := F) m).duties ((c : Thread nD τ), .reg s) r = ∅ :=
  fun r hr => if_neg fun h => by omega
theorem later_send : ∀ r, 5 ≤ r → (plan (F := F) m).duties (sendCell c) r = ∅ :=
  fun r hr => if_neg fun h => absurd (roundsOf_sendS ▸ h.2) (Nat.not_lt.mpr hr)
theorem later_recv (s : Fin 5) : ∀ r, 1 ≤ r → (plan (F := F) m).duties (recvCell s c) r = ∅ :=
  fun r hr => if_neg fun h => absurd (roundsOf_recvS s ▸ h.2) (Nat.not_lt.mpr hr)

theorem expect_reg (s : Sem sig) : (plan (F := F) m).expect ((c : Thread nD τ), .reg s) 0 = 5 := by
  unfold Schedule.expect Schedule.amountOf
  rw [duties_reg]; rfl
theorem expect_send (r : Fin 5) : (plan (F := F) m).expect (sendCell c) r.val = N := by
  unfold Schedule.expect Schedule.amountOf; rw [duties_send, Finset.sum_singleton]; rfl
theorem expect_recv (r : Fin 5) : (plan (F := F) m).expect (recvCell r c) 0 = N := by
  unfold Schedule.expect Schedule.amountOf; rw [duties_recv, Finset.sum_singleton]; rfl

theorem payload_bar (r : Fin 5) : (plan (F := F) m).payload (barCell c) 0 r = slotFree r (peer r c) := by
  show (if barS = barS then slotFree r (peer r c) else iprop(emp)) = _
  exact if_pos rfl
theorem payload_exit (r : Fin 5) : (plan (F := F) m).payload (exitCell c) 0 r = iprop(emp) := by
  show (if exitS = barS then slotFree r (peer r c) else iprop(emp)) = _
  exact if_neg (by decide)
theorem payload_send (r : ℕ) (d : Fin 5) : (plan (F := F) m).payload (sendCell c) r d = sbHas c (acc m r c) := by
  dsimp only [plan]; exact if_pos rfl
theorem payload_recv (r : Fin 5) (k : ℕ) (d : Fin 5) :
    (plan (F := F) m).payload (recvCell r c) k d = slotHas r c (acc m r.val (peer r c)) := by
  dsimp only [plan]; rw [if_neg (recvS_ne_sendS r), stepOf_recvS]

/-- All a barrier round brings: the five partners' landing buffers. -/
theorem rest_bar : bigSep ((plan (F := F) m).duties (barCell c) 0 \ ∅) (fun d => (plan (F := F) m).payload (barCell c) 0 d)
    = iprop(slotFree 0 (peer 0 c) ∗ slotFree 1 (peer 1 c) ∗ slotFree 2 (peer 2 c) ∗ slotFree 3 (peer 3 c) ∗ slotFree 4 (peer 4 c)) := by
  rw [Finset.sdiff_empty, duties_reg, bigSep_univ_eq_bigSepL [0, 1, 2, 3, 4] (by decide) (by decide), bigSepL_cons_cons, bigSepL_cons_cons,
    bigSepL_cons_cons, bigSepL_cons_cons, bigSepL_singleton]
  simp only [payload_bar]
  rfl
theorem rest_send (r : Fin 5) : bigSep ((plan (F := F) m).duties (sendCell c) r.val \ ∅) (fun d => (plan (F := F) m).payload (sendCell c) r.val d)
    = sbHas c (acc m r.val c) := by
  rw [Finset.sdiff_empty, duties_send, bigSep_singleton, payload_send]
theorem rest_recv (r : Fin 5) : bigSep ((plan (F := F) m).duties (recvCell r c) 0 \ ∅) (fun d => (plan (F := F) m).payload (recvCell r c) 0 d)
    = slotHas r c (acc m r.val (peer r c)) := by
  rw [Finset.sdiff_empty, duties_recv, bigSep_singleton, payload_recv]

end Plan

/-! ## Dues and levels -/

/-- A list of dues, the first to be paid in front, as a tally. -/
def due : List (GSem nD τ sig × ℕ) → CellTallies nD τ sig Unit
  | [] => 0
  | p :: l => due l + tallyAt p.1 () p.2

theorem due_pos {l : List (GSem nD τ sig × ℕ)} {g : GSem nD τ sig} {u : Unit} (h : 0 < due l g u) : ∃ p ∈ l, p.1 = g := by
  induction l with
  | nil => exact absurd h (Nat.lt_irrefl 0)
  | cons p l ih =>
    by_cases hp : p.1 = g
    · exact ⟨p, List.mem_cons_self, hp⟩
    · unfold due at h
      rw [Pi.add_apply, Finsupp.add_apply, tallyAt_apply, if_neg fun e => hp e.1.symm, Nat.add_zero] at h
      obtain ⟨q, hq, e⟩ := ih h
      exact ⟨q, List.mem_cons_of_mem _ hq, e⟩

/-- Device `c`'s dues in the order it pays them, split at the two waits between them. -/
def exits (c : Dev nD) : List (GSem nD τ sig × ℕ) :=
  [(exitCell (peer 0 c), 1), (exitCell (peer 1 c), 1), (exitCell (peer 2 c), 1), (exitCell (peer 3 c), 1), (exitCell (peer 4 c), 1)]
def sends (c : Dev nD) : List (GSem nD τ sig × ℕ) :=
  (recvCell 0 (peer 0 c), N) :: (recvCell 1 (peer 1 c), N) :: (recvCell 2 (peer 2 c), N) :: (recvCell 3 (peer 3 c), N) :: (recvCell 4 (peer 4 c), N) :: exits c
def dues (c : Dev nD) : List (GSem nD τ sig × ℕ) :=
  (barCell (peer 0 c), 1) :: (barCell (peer 1 c), 1) :: (barCell (peer 2 c), 1) :: (barCell (peer 3 c), 1) :: (barCell (peer 4 c), 1) :: sends c

def O₀ (c : Dev nD) : CellTallies nD τ sig Unit := due (dues c)

def L (g : GSem nD τ sig) : Finset Unit := if g.1.2 = .tc then {()} else ∅
/-- Levels: the barrier at 1, step `r`'s arrivals at `2 + r`, the exit at 10, everything else at 0. -/
def semLv : SemLoc sig → ℕ
  | .reg s => if s = barS then 1 else 10
  | .dma q => q.val - 4
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-- A device may wait on a cell below everything it still owes. -/
theorem mayWait_due (c : Dev nD) (sm : SemLoc sig) (l : List (GSem nD τ sig × ℕ))
    (h : ∀ p ∈ l, p.1.1.2 = .tc ∧ semLv sm < semLv p.1.2) :
    (levAts L lv : sProp 𝕄) ⊢ MayWait (c : Thread nD τ) sm () (due l) :=
  MayOwe.of_cut (L := L) (lev := lv) (semLv sm)
    (fun p hp => by rw [Finset.mem_singleton.mp hp, L_tc]; exact Finset.mem_singleton_self _)
    (fun g u hg => by
      obtain ⟨p, hp, rfl⟩ := due_pos hg
      unfold L; rw [if_pos (h p hp).1]; exact Finset.mem_singleton_self _)
    (fun p hp => by rw [Finset.mem_singleton.mp hp]; exact le_rfl)
    (fun g u hg => by
      obtain ⟨p, hp, rfl⟩ := due_pos hg
      exact (h p hp).2)

end Cert.Moe

end
-- ==== Proof.Steps.lean ====
/-
# The steps of a device's run

One rule per kind of step, for any step number: tell a partner that one has entered, wait for the five partners, exchange
sums with one partner, tell a partner that one is through, wait for the five partners again.
-/
module

public import proofs.«01_k».proof.Proof.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, under the names `K`; that every cell has reached round 0; the levels. -/
def shared (K : Dev nD × Fin 8 → ℕ) : sProp 𝕄 :=
  iprop((bigSep Finset.univ fun ck => cellInv ER (plan m) (K ck) (kcell ck)) ∗ (bigSep Finset.univ fun ck => reached ER (kcell ck) 0) ∗ levAts L lv)

instance shared_persistent (K : Dev nD × Fin 8 → ℕ) : BI.Persistent (shared m K) := by unfold shared; infer_instance

variable (K : Dev nD × Fin 8 → ℕ)

/-- The index of step `r`'s arrival cell. -/
def recvIx (r : Fin 5) : Fin 8 := ⟨3 + r.val, by omega⟩
theorem csem_recvIx (r : Fin 5) : csem (recvIx r) = .dma (recvS r) := by revert r; decide
theorem kcell_recvIx (r : Fin 5) (c : Dev nD) : kcell (c, recvIx r) = recvCell r c := by
  unfold kcell; rw [csem_recvIx]

theorem shared_inv (ck : Dev nD × Fin 8) : shared m K ⊢ cellInv ER (plan m) (K ck) (kcell ck) := by
  unfold shared; iintro ⟨H, -⟩; iapply (show (bigSep Finset.univ fun ck => cellInv ER (plan m) (K ck) (kcell ck)) ⊢ cellInv ER (plan m) (K ck) (kcell ck) from bigSep_elim (Finset.mem_univ ck)); iexact H
theorem shared_reached (ck : Dev nD × Fin 8) : shared m K ⊢ reached ER (kcell ck) 0 := by
  unfold shared; iintro ⟨-, H, -⟩; iapply (show (bigSep Finset.univ fun ck => (reached ER (kcell ck) 0 : sProp 𝕄)) ⊢ reached ER (kcell ck) 0 from bigSep_elim (Finset.mem_univ ck)); iexact H
theorem shared_inv_recv (r : Fin 5) (c : Dev nD) : shared m K ⊢ cellInv ER (plan m) (K (c, recvIx r)) (recvCell r c) := by
  rw [← kcell_recvIx]; exact shared_inv m K (c, recvIx r)
theorem shared_reached_recv (r : Fin 5) (c : Dev nD) : shared m K ⊢ reached ER (recvCell r c) 0 := by
  rw [← kcell_recvIx]; exact shared_reached m K (c, recvIx r)
theorem shared_may (c : Dev nD) (sm : SemLoc sig) (l : List (GSem nD τ sig × ℕ)) (h : ∀ p ∈ l, p.1.1.2 = .tc ∧ semLv sm < semLv p.1.2) :
    shared m K ⊢ MayWait (c : Thread nD τ) sm () (due l) := by
  unfold shared; iintro ⟨-, -, H⟩; iapply (mayWait_due (F := F) c sm l h); iexact H

/-! ## The landing buffers -/

theorem slot_set (r : Fin 5) : (slotM r).view.set = (slotRect r).set :=
  (View.set_reshape _ _).trans (View.set_slice_whole _ _)

theorem slotHas_free (r : Fin 5) (c : Dev nD) (v : FVec F S256x256 .f32) : slotHas r c v ⊢ slotFree (F := F) r c := by
  unfold slotHas slotFree; iintro ⟨%f, -, H⟩; iexists f; iexact H

section Steps
variable (c : Dev nD) {α : Type}

/-! ## Signals -/

/-- Entering: partner `peer r c` gets `c`'s landing buffer of step `r`. -/
theorem wp_enter (r : Fin 5) (n : Dev nD) (hn : n = peer r c) (l : List (GSem nD τ sig × ℕ)) (W : Waits sig Unit)
    {Q : α → sProp 𝕄} {k : PUnit → Prog (TpuEff nD τ sig (Elt F) Λ₀ .tc) α} :
    iprop(shared m K ∗ owes (c : Thread nD τ) (due ((barCell (peer r c), 1) :: l)) W ∗ dutyTok ER (barCell (peer r c)) 0 r ∗ slotFree r c)
      ⊢ iprop((owes (c : Thread nD τ) (due l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS 1) k) Q) := by
  subst hn
  iintro ⟨#Hs, HO, Ht, Hb⟩ Hk
  iapply (Rounds.wp_signal 𝒱₀ ER (plan m) (c : Thread nD τ) none (dst := (peer r c : Thread nD τ)) (κ := K (peer r c, 0))
      (d := r) (r := 0) (by rw [duties_reg]; exact Finset.mem_univ _) rfl () (due l) rfl) $$ [HO Ht Hb]
  · isplitr; · iapply (shared_inv m K (peer r c, 0)); iexact Hs
    isplitl [HO]; · iexact HO
    isplitl [Ht]; · iexact Ht
    isplitl [Hb]; · rw [payload_bar, peer_peer]; iexact Hb
    iapply (shared_reached m K (peer r c, 0)); iexact Hs
  iexact Hk

/-- Leaving: nothing is handed over. -/
theorem wp_leave (r : Fin 5) (n : Dev nD) (hn : n = peer r c) (l : List (GSem nD τ sig × ℕ)) (W : Waits sig Unit)
    {Q : α → sProp 𝕄} {k : PUnit → Prog (TpuEff nD τ sig (Elt F) Λ₀ .tc) α} :
    iprop(shared m K ∗ owes (c : Thread nD τ) (due ((exitCell (peer r c), 1) :: l)) W ∗ dutyTok ER (exitCell (peer r c)) 0 r)
      ⊢ iprop((owes (c : Thread nD τ) (due l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) exitS 1) k) Q) := by
  subst hn
  iintro ⟨#Hs, HO, Ht⟩ Hk
  iapply (Rounds.wp_signal 𝒱₀ ER (plan m) (c : Thread nD τ) none (dst := (peer r c : Thread nD τ)) (κ := K (peer r c, 1))
      (d := r) (r := 0) (by rw [duties_reg]; exact Finset.mem_univ _) rfl () (due l) rfl) $$ [HO Ht]
  · isplitr; · iapply (shared_inv m K (peer r c, 1)); iexact Hs
    isplitl [HO]; · iexact HO
    isplitl [Ht]; · iexact Ht
    isplitr; · rw [payload_exit]; iempintro
    iapply (shared_reached m K (peer r c, 1)); iexact Hs
  iexact Hk

/-! ## Waits for the five partners -/

/-- All five partners have entered: their landing buffers, and the barrier cell back at zero. -/
theorem wp_entered (l : List (GSem nD τ sig × ℕ)) (W : Waits sig Unit) (hl : ∀ p ∈ l, p.1.1.2 = .tc ∧ semLv (.reg barS) < semLv p.1.2)
    {Q : α → sProp 𝕄} {k : PUnit → Prog (TpuEff nD τ sig (Elt F) Λ₀ .tc) α} :
    iprop(shared m K ∗ cred (tallyAt (barCell c) () 5) ∗ owes (c : Thread nD τ) (due l) W ∗ atPos ER (barCell c) 0 ∅ 0)
      ⊢ iprop(((∃ W', owes (c : Thread nD τ) (due l) W') ∗ semVal (barCell c) 0
              ∗ slotFree 0 (peer 0 c) ∗ slotFree 1 (peer 1 c) ∗ slotFree 2 (peer 2 c) ∗ slotFree 3 (peer 3 c) ∗ slotFree 4 (peer 4 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 5) k) Q) := by
  iintro ⟨#Hs, Hc, HO, Hat⟩ Hk
  iapply (Rounds.wp_wait_rest_token 𝒱₀ ER (plan m) (c : Thread nD τ) none (κ := K (c, 0))
      (wpE_semWait_eq 𝒱₀ (c : Thread nD τ) none Set.univ) (Set.mem_univ _) () (O := due l) (W := W) (R := 0) (m := 0) (T := ∅)
      (by rw [expect_reg])) $$ [Hc HO Hat]
  · isplitr; · iapply (shared_inv m K (c, 0)); iexact Hs
    isplitl [Hc]; · iexact Hc
    isplitl [HO]; · iexact HO
    isplitr; · iapply (shared_may m K c (.reg barS) l hl); iexact Hs
    iexact Hat
  iintro ⟨HO, Hat, -, Hpay⟩
  ihave Hp := (Entails.of_eq (rest_bar m c)) $$ Hpay
  imod (Rounds.cell_close ER (plan m) (Set.mem_univ (K (c, 0))) (fun h => h) (R := 0 + 1) (later_reg m c barS)) $$ [Hat] with Hz
  · isplitr; · iapply (shared_inv m K (c, 0)); iexact Hs
    iexact Hat
  iapply Hk
  isplitl [HO]; · iexists _; iexact HO
  isplitl [Hz]; · iexact Hz
  iexact Hp

/-- All five partners are through: the exit cell back at zero. -/
theorem wp_left (W : Waits sig Unit) {Q : α → sProp 𝕄} {k : PUnit → Prog (TpuEff nD τ sig (Elt F) Λ₀ .tc) α} :
    iprop(shared m K ∗ cred (tallyAt (exitCell c) () 5) ∗ owes (c : Thread nD τ) (due []) W ∗ atPos ER (exitCell c) 0 ∅ 0)
      ⊢ iprop(((∃ W', owes (c : Thread nD τ) (due []) W') ∗ semVal (exitCell c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait exitS 5) k) Q) := by
  iintro ⟨#Hs, Hc, HO, Hat⟩ Hk
  iapply (Rounds.wp_wait_rest_token 𝒱₀ ER (plan m) (c : Thread nD τ) none (κ := K (c, 1))
      (wpE_semWait_eq 𝒱₀ (c : Thread nD τ) none Set.univ) (Set.mem_univ _) () (O := due []) (W := W) (R := 0) (m := 0) (T := ∅)
      (by rw [expect_reg])) $$ [Hc HO Hat]
  · isplitr; · iapply (shared_inv m K (c, 1)); iexact Hs
    isplitl [Hc]; · iexact Hc
    isplitl [HO]; · iexact HO
    isplitr; · iapply (shared_may m K c (.reg exitS) [] (by simp)); iexact Hs
    iexact Hat
  iintro ⟨HO, Hat, -, -⟩
  imod (Rounds.cell_close ER (plan m) (Set.mem_univ (K (c, 1))) (fun h => h) (R := 0 + 1) (later_reg m c exitS)) $$ [Hat] with Hz
  · isplitr; · iapply (shared_inv m K (c, 1)); iexact Hs
    iexact Hat
  iapply Hk
  isplitl [HO]; · iexists _; iexact HO
  iexact Hz

/-! ## The exchange -/

/-- The send to `peer r c`: the credit to wait for its departure. -/
theorem wp_give (r : Fin 5) (n : Dev nD) (hn : n = peer r c) (l : List (GSem nD τ sig × ℕ)) (W : Waits sig Unit)
    {hsc : (slotM r : Memref sig (Dev.tc n : Thread nD τ).2.kind .vmem S256x256 .f32).view.ref.isScScratch = false}
    {hsrc : sbM.view.WordExact} {hdst : (slotM r).view.WordExact}
    {hsem : DmaTarget.Typed .vmem (.dma (recvS r)) (.remote (Dev.tc n : Thread nD τ) (slotM r : Memref sig (Dev.tc n : Thread nD τ).2.kind .vmem S256x256 .f32) (.dma sendS) hsc)}
    {Q : α → sProp 𝕄} {k : PUnit → Prog (TpuEff nD τ sig (Elt F) Λ₀ .tc) α} :
    iprop(shared m K ∗ sbHas c (acc m r.val c) ∗ slotFree r (peer r c)
        ∗ owes (c : Thread nD τ) (due ((recvCell r (peer r c), N) :: l)) W
        ∗ dutyTok ER (sendCell c) r.val 0 ∗ reached ER (sendCell c) r.val ∗ dutyTok ER (recvCell r (peer r c)) 0 0)
      ⊢ iprop(((cred (tallyAt (sendCell c) () N) ∗ owes (c : Thread nD τ) (due l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sbM (.remote (Dev.tc n : Thread nD τ) (slotM r) (.dma sendS) hsc) (.dma (recvS r)) hsrc hdst hsem) k) Q) := by
  subst hn
  have hsb : (sbHas c (acc m r.val c) : sProp 𝕄)
      = (sbM.view.loc (c : Thread nD τ) ↦[sbM.view.set]{fullShare} (acc m r.val c : Buf (Elt F) (sbM.view.loc (c : Thread nD τ)))) := by
    unfold sbHas; rw [View.set_whole]
  unfold slotFree
  iintro ⟨#Hs, Hb, ⟨%fd, Hd⟩, HO, Ht1, #Hr1, Ht2⟩ Hk
  ihave Hb' := (Entails.of_eq hsb) $$ Hb
  iapply (Rounds.wp_send_pointsTo 𝒱₀ ER (plan m) (c : Thread nD τ) none (κ₁ := K (c, 2)) (κ₂ := K (peer r c, recvIx r))
    (r₁ := r.val) (r₂ := 0) (d₁ := 0) (d₂ := 0) (fd := fd)
    (by rw [duties_send]; exact Finset.mem_singleton_self _) (by rw [duties_recv]; exact Finset.mem_singleton_self _)
    () () N rfl rfl rfl (due l) rfl (W := W)
    (by rw [payload_send, hsb])
    (by
      rw [payload_recv, peer_peer]
      unfold slotHas
      iintro H
      iexists _
      isplitr; rotate_left; · iexact H
      ipureintro
      rw [View.read_write_univ]
      exact View.read_whole _ _)) $$ [Hb' Hd HO Ht1 Ht2]
  · isplitr; · iapply (shared_inv m K (c, 2)); iexact Hs
    isplitr; · iapply (shared_inv_recv m K r (peer r c)); iexact Hs
    isplitl [Hb']; · iexact Hb'
    isplitl [Hd]; · iexact Hd
    isplitl [HO]; · iexact HO
    isplitl [Ht1]; · iexact Ht1
    isplitr; · iexact Hr1
    isplitl [Ht2]; · iexact Ht2
    iapply (shared_reached_recv m K r (peer r c)); iexact Hs
  iexact Hk

/-- The whole exchange of step `r`: send, wait until it has left, wait for the partner's sum, read it. -/
theorem wp_exchange (r : Fin 5) (n : Dev nD) (hn : n = peer r c) (l : List (GSem nD τ sig × ℕ)) (W : Waits sig Unit)
    (hl : ∀ p ∈ l, p.1.1.2 = .tc ∧ semLv (.dma (recvS r)) < semLv p.1.2)
    {hsc : (slotM r : Memref sig (Dev.tc n : Thread nD τ).2.kind .vmem S256x256 .f32).view.ref.isScScratch = false}
    {hsrc hsrc' hsrc'' : sbM.view.WordExact} {hdst hdst' hdst'' : (slotM r).view.WordExact}
    {hsem : DmaTarget.Typed .vmem (.dma (recvS r)) (.remote (Dev.tc n : Thread nD τ) (slotM r : Memref sig (Dev.tc n : Thread nD τ).2.kind .vmem S256x256 .f32) (.dma sendS) hsc)}
    {hload : rbM.view.LoadsAt (slotRect r).toLoadRect}
    {Q : α → sProp 𝕄} {k : Vec F S1x256x256 .f32 → Prog (TpuEff nD τ sig (Elt F) Λ₀ .tc) α} :
    iprop(shared m K ∗ sbHas c (acc m r.val c) ∗ slotFree r (peer r c)
        ∗ owes (c : Thread nD τ) (due ((recvCell r (peer r c), N) :: l)) W
        ∗ atPos ER (sendCell c) r.val ∅ 0 ∗ reached ER (sendCell c) r.val ∗ dutyTok ER (sendCell c) r.val 0
        ∗ dutyTok ER (recvCell r (peer r c)) 0 0 ∗ cred (tallyAt (recvCell r c) () N) ∗ atPos ER (recvCell r c) 0 ∅ 0)
      ⊢ iprop((∀ v : Vec F S1x256x256 .f32, ⌜shapeCast S256x256 v shapeCasts_S1x256x256_S256x256 = acc m r.val (peer r c)⌝
              -∗ (sbHas c (acc m r.val c) ∗ slotFree r c ∗ (∃ W', owes (c : Thread nD τ) (due l) W')
                ∗ atPos ER (sendCell c) (r.val + 1) ∅ 0 ∗ reached ER (sendCell c) (r.val + 1) ∗ semVal (recvCell r c) 0)
              -∗ wp frame (wpE (defs₀ (F := F)) 𝒱₀ (c : Thread nD τ) none) Set.univ (k v) Q)
          -∗ wp frame (wpE (defs₀ (F := F)) 𝒱₀ (c : Thread nD τ) none) Set.univ
              (.op (.enqueueDma sbM (.remote (Dev.tc n : Thread nD τ) (slotM r) (.dma sendS) hsc) (.dma (recvS r)) hsrc hdst hsem) fun _ =>
                .op (.waitDma2 sendS (slotM r) sbM hdst' hsrc') fun _ =>
                  .op (.waitDma2 (recvS r) sbM (slotM r) hsrc'' hdst'') fun _ =>
                    .op (.load rbM (slotRect r).toLoadRect hload) k) Q) := by
  iintro ⟨#Hs, Hb, Hd, HO, HatS, #HrS, HtS, HtR, HcR, HatR⟩ Hk
  iapply (wp_give m K c r n hn l W) $$ [Hb Hd HO HtS HtR]
  · isplitr; · iexact Hs
    isplitl [Hb]; · iexact Hb
    isplitl [Hd]; · iexact Hd
    isplitl [HO]; · iexact HO
    isplitl [HtS]; · iexact HtS
    isplitr; · iexact HrS
    iexact HtR
  iintro ⟨HcS, HO⟩
  have hsend : semLv (.dma sendS) ≤ semLv (.dma (recvS r)) := by
    clear hl hsc hdst hdst' hdst'' hsem hload k hn; revert r; decide
  iapply (Rounds.wp_wait_rest_token 𝒱₀ ER (plan m) (c : Thread nD τ) none (κ := K (c, 2))
      (wpE_waitDma2_eq 𝒱₀ (c : Thread nD τ) none Set.univ) (Set.mem_univ _) () (O := due l) (W := W) (R := r.val) (m := 0) (T := ∅)
      (by rw [Nat.zero_add, expect_send])) $$ [HcS HO HatS]
  · isplitr; · iapply (shared_inv m K (c, 2)); iexact Hs
    isplitl [HcS]; · iexact HcS
    isplitl [HO]; · iexact HO
    isplitr
    · iapply (shared_may m K c (.dma sendS) l fun p hp => ⟨(hl p hp).1, lt_of_le_of_lt hsend (hl p hp).2⟩); iexact Hs
    iexact HatS
  iintro ⟨HO, HatS, #HrS', Hpay⟩
  ihave Hb := (Entails.of_eq (rest_send m c r)) $$ Hpay
  iapply (Rounds.wp_wait_rest_token 𝒱₀ ER (plan m) (c : Thread nD τ) none (κ := K (c, recvIx r))
      (wpE_waitDma2_eq 𝒱₀ (c : Thread nD τ) none Set.univ) (Set.mem_univ _) () (O := due l)
      (W := insert (SemLoc.dma sendS, ()) W) (R := 0) (m := 0) (T := ∅)
      (by rw [Nat.zero_add, expect_recv])) $$ [HcR HO HatR]
  · isplitr; · iapply (shared_inv_recv m K r c); iexact Hs
    isplitl [HcR]; · iexact HcR
    isplitl [HO]; · iexact HO
    isplitr; · iapply (shared_may m K c (.dma (recvS r)) l hl); iexact Hs
    iexact HatR
  iintro ⟨HO, HatR, -, Hpay⟩
  ihave Hl := (Entails.of_eq (rest_recv m c r)) $$ Hpay
  unfold slotHas
  icases Hl with ⟨%f, %hf, Hl⟩
  imod (Rounds.cell_close ER (plan m) (Set.mem_univ (K (c, recvIx r))) (fun h => h) (R := 0 + 1) (later_recv m c r)) $$ [HatR] with Hz
  · isplitr; · iapply (shared_inv_recv m K r c); iexact Hs
    iexact HatR
  iapply (wp_load_rect 𝒱₀ (c : Thread nD τ) none Set.univ (m := rbM) (r := slotRect r) (S := (slotM r).view.set)
    (by rw [slot_set]; exact (View.set_slice_whole _ _).le)) $$ Hl
  iintro Hl
  ihave Hk' := Hk $$ %_
  iapply Hk' $$ [] [Hb Hl HO HatS Hz]
  · ipureintro; exact hf
  isplitl [Hb]; · iexact Hb
  isplitl [Hl]; · unfold slotFree; iexists f; iexact Hl
  isplitl [HO]; · iexists _; iexact HO
  isplitl [HatS]; · iexact HatS
  isplitr; · iexact HrS'
  iexact Hz

/-! ## The send buffer -/

abbrev sqRect : Rect S256x256 := Rect.unit (s := S256x256) ![0, 0] S256x256.size inb_S256x256_S256x256_0_0

theorem zeros2 : (![0, 0] : Fin 2 → Nat) = fun _ => 0 := funext fun a => by fin_cases a <;> rfl

theorem refill_eq (v w : (cc0_scratch0 : Ref sig .tc).ty.Contents (Elt F)) :
    (sbM.access sqRect : View sig .tc _ _ _).write (Elt F) v w Finset.univ = w :=
  Memref.write_access_unit_zero_univ (Elt F) cc0_scratch0 zeros2 _ v w

/-- Replacing the send buffer's contents; the load before it is of no use to the program. -/
theorem wp_refill (v w : FVec F S256x256 .f32) {hl : sbM.view.LoadsAt sqRect.toLoadRect}
    {hx : (sbM.access sqRect).Stores Finset.univ} {hm : (Finset.univ : Finset sqRect.shape.Idx) = Finset.univ ∨ ∀ a, sqRect.stride a = 1}
    {Q : α → sProp 𝕄} {k : PUnit → Prog (TpuEff nD τ sig (Elt F) Λ₀ .tc) α} :
    sbHas c v
      ⊢ iprop((sbHas c w -∗ wp frame (wpE (defs₀ (F := F)) 𝒱₀ (c : Thread nD τ) none) Set.univ (k ⟨⟩) Q)
          -∗ wp frame (wpE (defs₀ (F := F)) 𝒱₀ (c : Thread nD τ) none) Set.univ
              (.op (.load sbM sqRect.toLoadRect hl) fun _ => .op (.store sbM sqRect w Finset.univ hx hm) k) Q) := by
  unfold sbHas
  iintro Hb Hk
  iapply (wp_load 𝒱₀ (c : Thread nD τ) none Set.univ (m := sbM) (Finset.subset_univ _)) $$ Hb; iintro Hb
  iapply (wp_store 𝒱₀ (c : Thread nD τ) none Set.univ (m := sbM) (r := sqRect) (Mk := Finset.univ) (Finset.subset_univ _)) $$ Hb; iintro Hb
  rw [refill_eq]
  iapply Hk
  iexact Hb

end Steps

end Cert.Moe

end
-- ==== Proof.Body.lean ====
/-
# The body on one device

What a device starts and ends with, and its run from the one to the other, one rule per step.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_steps (Φ : Fin 5 → sProp 𝕄) : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ

/-! ## What a device starts with -/

/-- For step `r`: the tokens `c` pays with — at its partner's barrier, exit and arrival cells, and at its own send cell —
    and its position at its own arrival cell. -/
def stepGhost (c : Dev nD) (r : Fin 5) : sProp 𝕄 :=
  iprop(dutyTok ER (barCell (peer r c)) 0 r ∗ dutyTok ER (exitCell (peer r c)) 0 r ∗ dutyTok ER (sendCell c) r.val 0
    ∗ dutyTok ER (recvCell r (peer r c)) 0 0 ∗ atPos ER (recvCell r c) 0 ∅ 0)

def ghost (K : Dev nD × Fin 8 → ℕ) (c : Dev nD) : sProp 𝕄 :=
  iprop(shared m K ∗ atPos ER (barCell c) 0 ∅ 0 ∗ atPos ER (exitCell c) 0 ∅ 0 ∗ atPos ER (sendCell c) 0 ∅ 0
    ∗ bigSep Finset.univ (stepGhost c))

/-- The credit `c` waits with: five units at its barrier and its exit, a transfer's at each of its arrival cells. -/
def credits (c : Dev nD) : sProp 𝕄 :=
  iprop(cred (tallyAt (barCell c) () 5) ∗ cred (tallyAt (exitCell c) () 5) ∗ bigSep Finset.univ fun r : Fin 5 => cred (tallyAt (recvCell r c) () N))

def start (c : Dev nD) : sProp 𝕄 := iprop((∃ K, ghost m K c) ∗ credits (F := F) c)

def sbAny (c : Dev nD) : sProp 𝕄 :=
  iprop(∃ f : FVec F S256x256 .f32, sbHas c f)

def Φ₀ (c : Dev nD) : sProp 𝕄 := iprop(start m c ∗ sbAny c ∗ bigSep Finset.univ fun r => slotFree (F := F) r c)

/-- After the run: the buffers, and every cell back at zero. -/
def Φ₁ (c : Dev nD) : sProp 𝕄 :=
  iprop(sbAny (F := F) c ∗ (bigSep Finset.univ fun r => slotFree (F := F) r c)
    ∗ semVal (barCell c) 0 ∗ semVal (exitCell c) 0 ∗ semVal (sendCell c) 0 ∗ bigSep Finset.univ fun r : Fin 5 => semVal (recvCell r c) 0)

/-- The launch data: each window's array as at launch, the inputs' blocks staged, the sum of all parts in the result's. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => rwAt m c
    | ⟨2, _⟩ => ixAt m c
    | ⟨3, _⟩ => ewAt m c
    | ⟨4, _⟩ => acc m 5 c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The arithmetic of a step -/

/-- What a step adds to the running sum. -/
def plus (v : FVec F S256x256 .f32) (w : Vec F S1x256x256 .f32) : FVec F S256x256 .f32 :=
  addf v (shapeCast S256x256 w shapeCasts_S1x256x256_S256x256)

theorem pay12_eq : k0_pay12 (F := F) = k0_pay11 := by
  funext a b c d e f g h i j k; unfold k0_pay12; exact shapeCast_self _ _
theorem pay13_eq : k0_pay13 (F := F) = plus := rfl
theorem pay14_eq : k0_pay14 (F := F) = plus := by funext v w; unfold k0_pay14; exact shapeCast_self _ _
theorem pay15_eq : k0_pay15 (F := F) = plus := rfl
theorem pay16_eq : k0_pay16 (F := F) = plus := by funext v w; unfold k0_pay16; exact shapeCast_self _ _
theorem pay17_eq (v : FVec F S256x256 .f32) (w w' : Vec F S1x256x256 .f32) : k0_pay17 v w w' = plus (plus v w) w' := rfl
theorem pay18_eq (v : FVec F S256x256 .f32) : k0_pay18 v = v := by unfold k0_pay18; exact shapeCast_self _ _
theorem pay19_eq : k0_pay19 (F := F) = plus := rfl
theorem pay20_eq : k0_pay20 (F := F) = plus := by funext v w; unfold k0_pay20; exact shapeCast_self _ _
theorem pay21_eq : k0_pay21 (F := F) = plus := by
  funext v w; unfold k0_pay21; first | rfl | exact shapeCast_self _ _

theorem plus_acc (r : Fin 5) (c : Dev nD) {v : Vec F S1x256x256 .f32}
    (h : shapeCast S256x256 v shapeCasts_S1x256x256_S256x256 = acc m r.val (peer r c)) : plus (acc m r.val c) v = acc m (r.val + 1) c := by
  rw [acc_succ, plus, h]

/-! ## What is owed lies above what is waited on -/

theorem exits_above (c : Dev nD) {n : ℕ} (h : n < 10) : ∀ p ∈ exits c, p.1.1.2 = .tc ∧ n < semLv p.1.2 := by
  have he : semLv (.reg exitS) = 10 := by decide
  intro p hp
  simp only [exits, List.mem_cons, List.not_mem_nil, or_false] at hp
  rcases hp with rfl | rfl | rfl | rfl | rfl <;> exact ⟨rfl, h.trans_eq he.symm⟩

theorem recv_above (r : Fin 5) (c : Dev nD) {n : ℕ} (h : n < 2 + r.val) {l : List (GSem nD τ sig × ℕ)}
    (hl : ∀ p ∈ l, p.1.1.2 = .tc ∧ n < semLv p.1.2) : ∀ p ∈ (recvCell r c, N) :: l, p.1.1.2 = .tc ∧ n < semLv p.1.2 := by
  have he : semLv (.dma (recvS r)) = 2 + r.val := by clear h; revert r; decide
  exact List.forall_mem_cons.mpr ⟨⟨rfl, h.trans_eq he.symm⟩, hl⟩

/-! ## The run -/

section Body
variable (K : Dev nD × Fin 8 → ℕ)

theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 zeros2 _ f
theorem read_rw (f : (cc0_stg1_0 : Ref sig .tc).ty.Contents (Elt F)) :
    rwM.view.readAt (Elt F) (Rect.unit (s := S128x64) ![0, 0] S128x64.size inb_S128x64_S128x64_0_0).toLoadRect f = f :=
  Memref.readAt_unit_zero (Elt F) cc0_stg1_0 zeros2 _ f
theorem write_out (f w : (cc0_stg4_0 : Ref sig .tc).ty.Contents (Elt F)) :
    (outM.access sqRect : View sig .tc _ _ _).write (Elt F) f w Finset.univ = w :=
  Memref.write_access_unit_zero_univ (Elt F) cc0_stg4_0 zeros2 _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop((ghost m K c ∗ credits (F := F) c ∗ sbAny (F := F) c ∗ bigSep Finset.univ fun r => slotFree (F := F) r c)
    ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ (F := F) c ∗ (dats m 0 c).owesAt () t0_0.succ ∗ stg c cc0_stg0_0 (xAt m c) ∗ stg c cc0_stg1_0 (rwAt m c)
    ∗ stg c cc0_stg2_0 (ixAt m c) ∗ stg c cc0_stg3_0 (ewAt m c) ∗ stg c cc0_stg4_0 (acc m 5 c))

set_option maxHeartbeats 4000000 in
set_option maxRecDepth 8000 in
/-- The body run from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ (bodyAt0 t0_0) Kt := by
  show _ ⊢ wp frame (wpE (defs₀ (F := F)) 𝒱₀ c none) Set.univ
      (cc0_body xM (Memref.isWhole_whole _) rwM (Memref.isWhole_whole _) ixM (Memref.isWhole_whole _) ewM (Memref.isWhole_whole _)
        outM (Memref.isWhole_whole _) sbM (Memref.isWhole_whole _) rbM (Memref.isWhole_whole _) cc0_scratch2 cc0_scratch3 cc0_scoped0) Kt
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  simp only [pay12_eq, pay13_eq, pay14_eq, pay15_eq, pay16_eq, pay17_eq, pay18_eq, pay19_eq, pay20_eq, pay21_eq]
  obtain ⟨⟨d1, d2, d3, d4, d5⟩, ⟨d6, d7, d8, d9, d10⟩, d11, d12, d13, d14, d15⟩ := dev_eqs c
  unfold bodyPre ghost credits sbAny
  simp only [bigSep_steps]
  unfold stepGhost
  iintro ⟨⟨⟨⟨#Hs, HaB, HaE, HaS, ⟨HtB0, HtE0, HtS0, HtR0, HaR0⟩, ⟨HtB1, HtE1, HtS1, HtR1, HaR1⟩, ⟨HtB2, HtE2, HtS2, HtR2, HaR2⟩,
      ⟨HtB3, HtE3, HtS3, HtR3, HaR3⟩, ⟨HtB4, HtE4, HtS4, HtR4, HaR4⟩⟩, ⟨HcB, HcE, HcR0, HcR1, HcR2, HcR3, HcR4⟩, ⟨%fb, Hb⟩, Hl0, Hl1, Hl2, Hl3, Hl4⟩,
    Ho, ⟨%e0, %g0, %hg0, Hx⟩, ⟨%e1, %g1, %hg1, Hrw⟩, ⟨%e2, %g2, %hg2, Hix⟩, ⟨%e3, %g3, %hg3, Hew⟩, ⟨%e4, %g4, %hg4, Hout⟩⟩, Hk⟩
  have hx : g0 = xAt m c := by rw [hg0]; unfold Dat.before; rw [if_pos (fetch0_0 t0_0)]; rfl
  have hrw : g1 = rwAt m c := by rw [hg1]; unfold Dat.before; rw [if_pos (fetch0_1 t0_0)]; rfl
  have hix : g2 = ixAt m c := by rw [hg2]; unfold Dat.before; rw [if_pos (fetch0_2 t0_0)]; rfl
  have hew : g3 = ewAt m c := by rw [hg3]; unfold Dat.before; rw [if_pos (fetch0_3 t0_0)]; rfl
  subst hx hrw hix hew
  unfold Dat.owesAt Pipeline.owesWithin
  icases Ho with ⟨%W, %hW, HO⟩
  rw [show (dats m 0 c).owed t0_0.castSucc = due (dues c) from rfl]
  -- entering
  unfold dues
  iapply (wp_enter m K c 0 _ d1 _ W) $$ [HO HtB0 Hl0]
  · isplitr; · iexact Hs
    isplitl [HO]; · iexact HO
    isplitl [HtB0] <;> iassumption
  iintro HO
  iapply (wp_enter m K c 1 _ d2 _ W) $$ [HO HtB1 Hl1]
  · isplitr; · iexact Hs
    isplitl [HO]; · iexact HO
    isplitl [HtB1] <;> iassumption
  iintro HO
  iapply (wp_enter m K c 2 _ d3 _ W) $$ [HO HtB2 Hl2]
  · isplitr; · iexact Hs
    isplitl [HO]; · iexact HO
    isplitl [HtB2] <;> iassumption
  iintro HO
  iapply (wp_enter m K c 3 _ d4 _ W) $$ [HO HtB3 Hl3]
  · isplitr; · iexact Hs
    isplitl [HO]; · iexact HO
    isplitl [HtB3] <;> iassumption
  iintro HO
  iapply (wp_enter m K c 4 _ d5 _ W) $$ [HO HtB4 Hl4]
  · isplitr; · iexact Hs
    isplitl [HO]; · iexact HO
    isplitl [HtB4] <;> iassumption
  iintro HO
  unfold sends
  iapply (wp_entered m K c _ W (recv_above 0 _ (by decide) (recv_above 1 _ (by decide) (recv_above 2 _ (by decide) (recv_above 3 _ (by decide) (recv_above 4 _ (by decide) (exits_above c (by decide)))))))) $$ [HcB HO HaB]
  · isplitr; · iexact Hs
    isplitl [HcB]; · iexact HcB
    isplitl [HO] <;> iassumption
  iintro ⟨⟨%W', HO⟩, HzB, Hp0, Hp1, Hp2, Hp3, Hp4⟩
  -- the part of the result from this device's experts
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  rw [read_x, read_rw]
  iapply (wp_load 𝒱₀ (c : Thread nD τ) none Set.univ (m := ixM) (Finset.subset_univ _)) $$ Hix; iintro Hix
  iapply (wp_load 𝒱₀ (c : Thread nD τ) none Set.univ (m := ixM) (Finset.subset_univ _)) $$ Hix; iintro Hix
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  rw [show k0_pay11 _ _ _ _ _ _ _ _ _ _ _ = acc m (0 : Fin 5).val c from rfl]
  iapply (wp_refill c fb (acc m (0 : Fin 5).val c)) $$ Hb; iintro Hb
  -- step 0
  iapply (wp_exchange m K c 0 _ d6 _ _ (recv_above 1 _ (by decide) (recv_above 2 _ (by decide) (recv_above 3 _ (by decide) (recv_above 4 _ (by decide) (exits_above c (by decide))))))) $$ [Hb Hp0 HO HaS HtS0 HtR0 HcR0 HaR0]
  · isplitr; · iexact Hs
    isplitl [Hb]; · iexact Hb
    isplitl [Hp0]; · iexact Hp0
    isplitl [HO]; · iexact HO
    isplitl [HaS]; · iexact HaS
    isplitr; · iapply (shared_reached m K (c, 2)); iexact Hs
    isplitl [HtS0]; · iexact HtS0
    isplitl [HtR0]; · iexact HtR0
    isplitl [HcR0] <;> iassumption
  iintro %v0 %hv0 ⟨Hb, Hl0, ⟨%W0, HO⟩, HaS, #HrS, HzR0⟩
  rw [show plus (acc m (0 : Fin 5).val c) v0 = acc m (1 : Fin 5).val c from plus_acc m 0 c hv0]
  iapply (wp_refill c _ (acc m (1 : Fin 5).val c)) $$ Hb; iintro Hb
  -- step 1
  iapply (wp_exchange m K c 1 _ d7 _ _ (recv_above 2 _ (by decide) (recv_above 3 _ (by decide) (recv_above 4 _ (by decide) (exits_above c (by decide)))))) $$ [Hb Hp1 HO HaS HtS1 HtR1 HcR1 HaR1]
  · isplitr; · iexact Hs
    isplitl [Hb]; · iexact Hb
    isplitl [Hp1]; · iexact Hp1
    isplitl [HO]; · iexact HO
    isplitl [HaS]; · iexact HaS
    isplitr; · iexact HrS
    isplitl [HtS1]; · iexact HtS1
    isplitl [HtR1]; · iexact HtR1
    isplitl [HcR1] <;> iassumption
  iclear HrS
  iintro %v1 %hv1 ⟨Hb, Hl1, ⟨%W1, HO⟩, HaS, #HrS, HzR1⟩
  rw [show plus (acc m (1 : Fin 5).val c) v1 = acc m (2 : Fin 5).val c from plus_acc m 1 c hv1]
  iapply (wp_refill c _ (acc m (2 : Fin 5).val c)) $$ Hb; iintro Hb
  -- step 2
  iapply (wp_exchange m K c 2 _ d8 _ _ (recv_above 3 _ (by decide) (recv_above 4 _ (by decide) (exits_above c (by decide))))) $$ [Hb Hp2 HO HaS HtS2 HtR2 HcR2 HaR2]
  · isplitr; · iexact Hs
    isplitl [Hb]; · iexact Hb
    isplitl [Hp2]; · iexact Hp2
    isplitl [HO]; · iexact HO
    isplitl [HaS]; · iexact HaS
    isplitr; · iexact HrS
    isplitl [HtS2]; · iexact HtS2
    isplitl [HtR2]; · iexact HtR2
    isplitl [HcR2] <;> iassumption
  iclear HrS
  iintro %v2 %hv2 ⟨Hb, Hl2, ⟨%W2, HO⟩, HaS, #HrS, HzR2⟩
  rw [show plus (acc m (2 : Fin 5).val c) v2 = acc m (3 : Fin 5).val c from plus_acc m 2 c hv2]
  iapply (wp_refill c _ (acc m (3 : Fin 5).val c)) $$ Hb; iintro Hb
  -- step 3
  iapply (wp_exchange m K c 3 _ d9 _ _ (recv_above 4 _ (by decide) (exits_above c (by decide)))) $$ [Hb Hp3 HO HaS HtS3 HtR3 HcR3 HaR3]
  · isplitr; · iexact Hs
    isplitl [Hb]; · iexact Hb
    isplitl [Hp3]; · iexact Hp3
    isplitl [HO]; · iexact HO
    isplitl [HaS]; · iexact HaS
    isplitr; · iexact HrS
    isplitl [HtS3]; · iexact HtS3
    isplitl [HtR3]; · iexact HtR3
    isplitl [HcR3] <;> iassumption
  iclear HrS
  iintro %v3 %hv3 ⟨Hb, Hl3, ⟨%W3, HO⟩, HaS, #HrS, HzR3⟩
  rw [show plus (acc m (3 : Fin 5).val c) v3 = acc m (4 : Fin 5).val c from plus_acc m 3 c hv3]
  iapply (wp_refill c _ (acc m (4 : Fin 5).val c)) $$ Hb; iintro Hb
  -- step 4
  iapply (wp_exchange m K c 4 _ d10 _ _ (exits_above c (by decide))) $$ [Hb Hp4 HO HaS HtS4 HtR4 HcR4 HaR4]
  · isplitr; · iexact Hs
    isplitl [Hb]; · iexact Hb
    isplitl [Hp4]; · iexact Hp4
    isplitl [HO]; · iexact HO
    isplitl [HaS]; · iexact HaS
    isplitr; · iexact HrS
    isplitl [HtS4]; · iexact HtS4
    isplitl [HtR4]; · iexact HtR4
    isplitl [HcR4] <;> iassumption
  iclear HrS
  iintro %v4 %hv4 ⟨Hb, Hl4, ⟨%W4, HO⟩, HaS, #HrS, HzR4⟩
  rw [show plus (acc m (4 : Fin 5).val c) v4 = acc m 5 c from plus_acc m 4 c hv4]
  -- the result
  iapply (wp_load 𝒱₀ (c : Thread nD τ) none Set.univ (m := outM) (Finset.subset_univ _)) $$ Hout; iintro Hout
  iapply (wp_store 𝒱₀ (c : Thread nD τ) none Set.univ (m := outM) (r := sqRect) (Mk := Finset.univ) (Finset.subset_univ _)) $$ Hout; iintro Hout
  rw [write_out]
  -- leaving
  unfold exits
  iapply (wp_leave m K c 0 _ d11 _ _) $$ [HO HtE0]
  · isplitr; · iexact Hs
    isplitl [HO] <;> iassumption
  iintro HO
  iapply (wp_leave m K c 1 _ d12 _ _) $$ [HO HtE1]
  · isplitr; · iexact Hs
    isplitl [HO] <;> iassumption
  iintro HO
  iapply (wp_leave m K c 2 _ d13 _ _) $$ [HO HtE2]
  · isplitr; · iexact Hs
    isplitl [HO] <;> iassumption
  iintro HO
  iapply (wp_leave m K c 3 _ d14 _ _) $$ [HO HtE3]
  · isplitr; · iexact Hs
    isplitl [HO] <;> iassumption
  iintro HO
  iapply (wp_leave m K c 4 _ d15 _ _) $$ [HO HtE4]
  · isplitr; · iexact Hs
    isplitl [HO] <;> iassumption
  iintro HO
  iapply (wp_left m K c _) $$ [HcE HO HaE]
  · isplitr; · iexact Hs
    isplitl [HcE]; · iexact HcE
    isplitl [HO] <;> iassumption
  iintro ⟨⟨%Wz, HO⟩, HzE⟩
  imod (Rounds.cell_close ER (plan m) (Set.mem_univ (K (c, 2))) (fun h => h) (R := (4 : Fin 5).val + 1) (later_send m c)) $$ [HaS] with HzS
  · isplitr; · iapply (shared_inv m K (c, 2)); iexact Hs
    iexact HaS
  rw [wp_ret]; imodintro
  iapply Hk
  unfold bodyPost Φ₁ Dat.owesAt Pipeline.owesWithin sbAny
  simp only [bigSep_steps]
  rw [show (dats m 0 c).owed t0_0.succ = due [] from rfl]
  isplitl [Hb Hl0 Hl1 Hl2 Hl3 Hl4 HzB HzE HzS HzR0 HzR1 HzR2 HzR3 HzR4]
  · isplitl [Hb]; · iexists _; iexact Hb
    isplitl [Hl0 Hl1 Hl2 Hl3 Hl4]
    · isplitl [Hl0]; · iexact Hl0
      isplitl [Hl1]; · iexact Hl1
      isplitl [Hl2]; · iexact Hl2
      isplitl [Hl3] <;> iassumption
    isplitl [HzB]; · iexact HzB
    isplitl [HzE]; · iexact HzE
    isplitl [HzS]; · iexact HzS
    isplitl [HzR0]; · iexact HzR0
    isplitl [HzR1]; · iexact HzR1
    isplitl [HzR2]; · iexact HzR2
    isplitl [HzR3] <;> iassumption
  isplitl [HO]
  · iexists Wz
    isplitr; · ipureintro; exact fun _ _ => Or.inl trivial
    iexact HO
  isplitl [Hx]; · iexists _; isplitr; · (ipureintro; rfl)
                  iexact Hx
  isplitl [Hrw]; · iexists _; isplitr; · (ipureintro; rfl)
                   iexact Hrw
  isplitl [Hix]; · iexists _; isplitr; · (ipureintro; rfl)
                   iexact Hix
  isplitl [Hew]; · iexists _; isplitr; · (ipureintro; rfl)
                   iexact Hew
  iexists _; isplitr; · (ipureintro; rfl)
  iexact Hout

end Body

end Cert.Moe

end
-- ==== Proof.Launch.lean ====
/-
# The launch

Every device's cells are allocated and their tokens dealt to the devices that pay with them; the launch credit covers each
wait; from there the run of one device (Body.lean) gives the run of all, and what every array holds at its end.
-/
module

public import proofs.«01_k».proof.Proof.Body
public import Idealize.ShloMosaic.Lib.Ring
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def atLaunch : MemSt nD τ sig (Elt F) := ⟨m, fun _ => 0, ρ⟩

/-! ## The body obligation -/

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_stg]
  show iprop(Φ₀ m c ∗ (dats m 0 c).owesAt () t0_0.castSucc
      ∗ (∃ d, stg c cc0_stg0_0 ((dats m 0 c).before (0 : Fin 5) t0_0 d))
      ∗ (∃ d, stg c cc0_stg1_0 ((dats m 0 c).before (1 : Fin 5) t0_0 d))
      ∗ (∃ d, stg c cc0_stg2_0 ((dats m 0 c).before (2 : Fin 5) t0_0 d))
      ∗ (∃ d, stg c cc0_stg3_0 ((dats m 0 c).before (3 : Fin 5) t0_0 d))
      ∗ (∃ d, stg c cc0_stg4_0 ((dats m 0 c).before (4 : Fin 5) t0_0 d)))
    ⊢ wp frame (wpE (defs₀ (F := F)) 𝒱₀ c none) Set.univ (bodyAt0 t0_0) (fun _ => bodyPost m c)
  unfold Φ₀ start
  iintro ⟨⟨⟨⟨%K, Hg⟩, Hc⟩, Hb, Hl⟩, Hrest⟩
  iapply (sound_body m K c fun _ => bodyPost m c)
  unfold bodyPre
  isplitr []
  · isplitl [Hg Hc Hb Hl]
    · isplitl [Hg]; · iexact Hg
      isplitl [Hc]; · iexact Hc
      isplitl [Hb] <;> iassumption
    iexact Hrest
  · iintro H; iexact H

/-! ## Cells and tokens -/

/-- The cells the launch opens for the kernel itself: all but the barrier, which is not the kernel's own. -/
def osem (k : Fin 7) : SemLoc sig := csem k.succ
theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨kcell, kcell_inj⟩

/-- The tokens of step `r`: at the barrier, the exit, the send cell, the arrival cell. -/
def tokKey : Fin 5 × Fin 4 → SemLoc sig × ℕ × Fin 5
  | (r, 0) => (.reg barS, 0, r)
  | (r, 1) => (.reg exitS, 0, r)
  | (r, 2) => (.dma sendS, r.val, 0)
  | (r, 3) => (.dma (recvS r), 0, 0)
theorem tokKey_inj : Function.Injective tokKey := by decide +kernel
def tokOf (x : Dev nD × Fin 5 × Fin 4) : GSem nD τ sig × ℕ × Fin 5 := (((x.1 : Thread nD τ), (tokKey x.2).1), (tokKey x.2).2)
theorem tokOf_inj : Function.Injective tokOf := fun a b h => by
  have h1 : a.1 = b.1 := congrArg (fun t : GSem nD τ sig × ℕ × Fin 5 => t.1.1.1) h
  have h2 : tokKey a.2 = tokKey b.2 := congrArg (fun t : GSem nD τ sig × ℕ × Fin 5 => (t.1.2, t.2)) h
  exact Prod.ext h1 (tokKey_inj h2)
def allToks : Finset (GSem nD τ sig × ℕ × Fin 5) := Finset.univ.map ⟨tokOf, tokOf_inj⟩

/-- Which device pays with a token: the cell's own for the send cell, the step's partner for the others. -/
def payer (x : Dev nD × Fin 5 × Fin 4) : Dev nD × Fin 5 × Fin 4 := (if x.2.2 = 2 then x.1 else peer x.2.1 x.1, x.2)
theorem payer_payer (x : Dev nD × Fin 5 × Fin 4) : payer (payer x) = x := by
  unfold payer
  by_cases h : x.2.2 = 2
  · simp only [if_pos h]
  · simp only [if_neg h, peer_peer]
def deal : Dev nD × Fin 5 × Fin 4 ≃ Dev nD × Fin 5 × Fin 4 := ⟨payer, payer, payer_payer, payer_payer⟩

def u₀ : UU :=
  (initOf (Pipeline.cells cfgs cellOf_inj) (Pipeline.launchToks cfgs cellOf_inj), initOf allCells allToks)

def tok (x : Dev nD × Fin 5 × Fin 4) : sProp 𝕄 := dutyTok ER (tokOf x).1 (tokOf x).2.1 (tokOf x).2.2

/-- What the launch deals device `c` at first: its own cells at round 0, and their tokens. -/
def G (c : Dev nD) : sProp 𝕄 :=
  iprop((bigSep Finset.univ fun k : Fin 8 => roundState ER (plan m) (kcell (c, k)) 0)
    ∗ (bigSep Finset.univ fun k : Fin 8 => atPos ER (kcell (c, k)) 0 ∅ 0) ∗ (bigSep Finset.univ fun k : Fin 8 => reached ER (kcell (c, k)) 0)
    ∗ bigSep Finset.univ fun rk => tok (c, rk))

def records (K : Dev nD × Fin 8 → ℕ) : sProp 𝕄 :=
  iprop((bigSep Finset.univ fun ck => cellInv ER (plan m) (K ck) (kcell ck)) ∗ bigSep Finset.univ fun ck => reached ER (kcell ck) 0)
instance records_persistent (K : Dev nD × Fin 8 → ℕ) : BI.Persistent (records m K) := by unfold records; infer_instance

/-- What is `c`'s alone: its positions, and the tokens it pays with. -/
def linear (c : Dev nD) : sProp 𝕄 :=
  iprop((bigSep Finset.univ fun k : Fin 8 => atPos ER (kcell (c, k)) 0 ∅ 0) ∗ bigSep Finset.univ fun rk => tok (payer (c, rk)))

def G' (c : Dev nD) : sProp 𝕄 := iprop(∃ K, records m K ∗ linear (F := F) c)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun rk : Fin 5 × Fin 4 => tok (c, rk) := by
    unfold allToks; rw [bigSep_map, bigSep_univ_prod]; rfl
  iintro HX
  imod (Rounds.fund ER (plan m) allCells allToks) $$ HX with ⟨Hst, Hr, Hat, Htok⟩
  imodintro
  ihave Hst := (Entails.of_eq (hX fun g => roundState ER (plan m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## Allocating the cells -/

theorem ownSems0_eq (c : Dev nD) : (Pipeline.ownSems0 (Ix := Unit) (Name := ℕ) (U := UU) (Lvl := ℕ) (Val := Elt F) (τ := τ) osem c : sProp 𝕄)
    = iprop(semVal (exitCell c) 0 ∗ semVal (sendCell c) 0 ∗ semVal (recvCell 0 c) 0 ∗ semVal (recvCell 1 c) 0 ∗ semVal (recvCell 2 c) 0
        ∗ semVal (recvCell 3 c) 0 ∗ semVal (recvCell 4 c) 0) := by
  rw [Pipeline.ownSems0_eq_of_list c osem [0, 1, 2, 3, 4, 5, 6] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : Fin 8 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin8]; rfl

theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k : Fin 8 => atPos ER (kcell (c, k)) 0 ∅ 0) ∗ (bigSep Finset.univ fun k : Fin 8 => reached ER (kcell (c, k)) 0)
          ∗ bigSep Finset.univ fun rk => tok (c, rk)) := by
  unfold G
  iintro ⟨Hos, Hus, Hst, Hat, Hr, Htok⟩
  ihave Hv := (Entails.of_eq (sems0_eq (F := F) c).symm) $$ [Hos Hus]
  · isplitl [Hus] <;> iassumption
  imod (show iprop((bigSep Finset.univ fun k : Fin 8 => semVal (kcell (c, k)) 0) ∗ bigSep Finset.univ fun k : Fin 8 => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- Tokens minted cell by cell are the tokens sorted by who pays with them. -/
theorem toks_dealt : (bigSep Finset.univ fun c : Dev nD => bigSep Finset.univ fun rk : Fin 5 × Fin 4 => (tok (c, rk) : sProp 𝕄))
    = bigSep Finset.univ fun c : Dev nD => bigSep Finset.univ fun rk : Fin 5 × Fin 4 => tok (payer (c, rk)) := by
  rw [← bigSep_univ_prod (fun x : Dev nD × Fin 5 × Fin 4 => (tok x : sProp 𝕄)), bigSep_univ_equiv deal (fun x : Dev nD × Fin 5 × Fin 4 => (tok x : sProp 𝕄)),
    bigSep_univ_prod]
  rfl

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m) κ (kcell (c, k))))
          ∗ (bigSep Finset.univ fun k : Fin 8 => atPos ER (kcell (c, k)) 0 ∅ 0) ∗ (bigSep Finset.univ fun k : Fin 8 => reached ER (kcell (c, k)) 0)
          ∗ bigSep Finset.univ fun rk => tok (c, rk)) : sProp 𝕄)
      ⊢ bigSep Finset.univ (G' m) := by
  rw [bigSep_sep', bigSep_sep', bigSep_sep', ← bigSep_univ_prod (fun ck : Dev nD × Fin 8 => iprop(∃ κ : ℕ, cellInv ER (plan m) κ (kcell ck))),
    ← bigSep_univ_prod (fun ck : Dev nD × Fin 8 => (reached ER (kcell ck) 0 : sProp 𝕄)), toks_dealt]
  iintro ⟨HI, Hat, #HR, Htok⟩
  ihave HK := (BI.bigSep_exists_pi Finset.univ (fun (ck : Dev nD × Fin 8) (κ : ℕ) => (cellInv ER (plan m) κ (kcell ck) : sProp 𝕄))) $$ HI
  icases HK with ⟨%K, #HI⟩
  iapply (spread (R := records m K) (Φ := linear (F := F)) fun c _ => by
    unfold G'; iintro ⟨#H, Hl⟩; iexists K; isplitr; · iexact H
    iexact Hl)
  isplitr
  · unfold records; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (regroup m))

/-- The four tokens of step `r` and the position at its arrivals. -/
theorem step_toks (c : Dev nD) (r : Fin 5) :
    iprop((bigSep Finset.univ fun k : Fin 4 => tok (F := F) (payer (c, r, k))) ∗ atPos ER (recvCell r c) 0 ∅ 0) ⊢ stepGhost (F := F) c r := by
  rw [bigSep_fin4]
  iintro ⟨⟨HB, HE, HS, HR⟩, Ha⟩
  unfold stepGhost
  isplitl [HB]; · iapply (show tok (F := F) (payer (c, r, 0)) ⊢ dutyTok ER (barCell (peer r c)) 0 r from Entails.rfl); iexact HB
  isplitl [HE]; · iapply (show tok (F := F) (payer (c, r, 1)) ⊢ dutyTok ER (exitCell (peer r c)) 0 r from Entails.rfl); iexact HE
  isplitl [HS]; · iapply (show tok (F := F) (payer (c, r, 2)) ⊢ dutyTok ER (sendCell c) r.val 0 from Entails.rfl); iexact HS
  isplitl [HR]; · iapply (show tok (F := F) (payer (c, r, 3)) ⊢ dutyTok ER (recvCell r (peer r c)) 0 0 from Entails.rfl); iexact HR
  iexact Ha

/-- With the levels, a device's records, positions and tokens are what its run starts from. -/
theorem ghost_intro (K : Dev nD × Fin 8 → ℕ) (c : Dev nD) : iprop(levAts L lv ∗ records m K ∗ linear (F := F) c) ⊢ ghost m K c := by
  have hs : iprop((bigSep Finset.univ fun r : Fin 5 => bigSep Finset.univ fun k : Fin 4 => tok (F := F) (payer (c, r, k)))
      ∗ bigSep Finset.univ fun r : Fin 5 => atPos ER (recvCell r c) 0 ∅ 0) ⊢ bigSep Finset.univ (stepGhost (F := F) c) := by
    rw [← bigSep_sep']; exact bigSep_mono fun r _ => step_toks c r
  unfold records linear ghost shared
  rw [bigSep_fin8, bigSep_univ_prod (fun rk : Fin 5 × Fin 4 => (tok (payer (c, rk)) : sProp 𝕄))]
  iintro ⟨#Hlev, ⟨#HI, #HR⟩, ⟨HaB, HaE, HaS, Ha⟩, Ht⟩
  isplitr
  · isplitr; · iexact HI
    isplitr; · iexact HR
    iexact Hlev
  isplitl [HaB]; · iexact HaB
  isplitl [HaE]; · iexact HaE
  isplitl [HaS]; · iexact HaS
  iapply hs
  isplitl [Ht]; · iexact Ht
  rw [bigSep_steps]
  iexact Ha

/-! ## The launch credit -/

/-- What a device owes at launch, cell by cell: the cell's semaphore, the step, the amount. -/
def owedAt : List (SemLoc sig × Fin 5 × ℕ) :=
  [(.reg barS, 0, 1), (.reg barS, 1, 1), (.reg barS, 2, 1), (.reg barS, 3, 1), (.reg barS, 4, 1),
   (.dma (recvS 0), 0, N), (.dma (recvS 1), 1, N), (.dma (recvS 2), 2, N), (.dma (recvS 3), 3, N), (.dma (recvS 4), 4, N),
   (.reg exitS, 0, 1), (.reg exitS, 1, 1), (.reg exitS, 2, 1), (.reg exitS, 3, 1), (.reg exitS, 4, 1)]

theorem dues_eq (c : Dev nD) : dues c = owedAt.map fun p => (((peer p.2.1 c : Thread nD τ), p.1), p.2.2) := rfl

theorem owed_level : ∀ sm ∈ owedAt.map Prod.fst, 0 < semLv sm := by decide

/-- Each step's dues reach each device exactly once. -/
theorem owed_sum (c : Dev nD) (sm : SemLoc sig) (l : List (SemLoc sig × Fin 5 × ℕ)) :
    ∑ d : Dev nD, due (l.map fun p => (((peer p.2.1 d : Thread nD τ), p.1), p.2.2)) ((c : Thread nD τ), sm) ()
      = (l.map fun p => if p.1 = sm then p.2.2 else 0).sum := by
  induction l with
  | nil => exact Finset.sum_eq_zero fun _ _ => rfl
  | cons p l ih =>
    have h1 (d : Dev nD) : (tallyAt ((peer p.2.1 d : Thread nD τ), p.1) () p.2.2 : CellTallies nD τ sig Unit) ((c : Thread nD τ), sm) ()
        = if peer p.2.1 c = d then (if p.1 = sm then p.2.2 else 0) else 0 := by
      by_cases hd : peer p.2.1 c = d
      · subst hd
        rw [if_pos rfl, peer_peer]
        by_cases hs : p.1 = sm
        · subst hs; rw [if_pos rfl, tallyAt_apply, if_pos ⟨rfl, rfl⟩]
        · rw [if_neg hs, tallyAt_ne_cell (fun h => hs (congrArg Prod.snd h).symm), Finsupp.zero_apply]
      · rw [if_neg hd, tallyAt_ne_cell (fun h => hd (by rw [show c = peer p.2.1 d from congrArg (fun g : GSem nD τ sig => g.1.1) h, peer_peer])), Finsupp.zero_apply]
    simp only [List.map_cons, List.sum_cons, due, Pi.add_apply, Finsupp.add_apply]
    rw [Finset.sum_add_distrib, ih, Finset.sum_congr rfl fun d _ => h1 d, Finset.sum_ite_eq, if_pos (Finset.mem_univ _), Nat.add_comm]

theorem launch_cell (c : Dev nD) (sm : SemLoc sig) {n : ℕ} (h : (owedAt.map fun p => if p.1 = sm then p.2.2 else 0).sum = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, ← h]
  exact owed_sum c sm owedAt

theorem owed_bar : (owedAt.map fun p => if p.1 = .reg barS then p.2.2 else 0).sum = 5 := by decide
theorem owed_exit : (owedAt.map fun p => if p.1 = .reg exitS then p.2.2 else 0).sum = 5 := by decide
theorem owed_recv (r : Fin 5) : (owedAt.map fun p => if p.1 = .dma (recvS r) then p.2.2 else 0).sum = N := by fin_cases r <;> rfl

theorem drop_third (A B C D : sProp 𝕄) : iprop(A ∗ B ∗ C ∗ D) ⊢ iprop(A ∗ B ∗ D) := by
  iintro ⟨HA, HB, -, HD⟩
  isplitl [HA]; · iexact HA
  isplitl [HB] <;> iassumption

theorem credits_intro (c : Dev nD) : (Pipeline.launchCred O₀ c : sProp 𝕄) ⊢ credits (F := F) c := by
  unfold Pipeline.launchCred
  refine (BI.bigSep_subset (Finset.subset_univ (Finset.univ.map ⟨csem, csem_inj⟩))).trans ?_
  rw [bigSep_map, bigSep_fin8]
  unfold credits
  rw [bigSep_steps, ← launch_cell c _ owed_bar, ← launch_cell c _ owed_exit, ← launch_cell c _ (owed_recv 0), ← launch_cell c _ (owed_recv 1),
    ← launch_cell c _ (owed_recv 2), ← launch_cell c _ (owed_recv 3), ← launch_cell c _ (owed_recv 4)]
  exact drop_third _ _ _ _

/-! ## The landing buffer whole and in its five slots -/

def slotSet (r : Fin 5) : Finset S5x256x256.Idx := (slotRect r).set

theorem slots_apart (r s : Fin 5) (h : r ≠ s) : Disjoint (slotSet r) (slotSet s) :=
  Ring.lead_disjoint (s := S5x256x256) (NB := 5) 0 1 (fun r => ![r.val, 0, 0]) S1x256x256.size slot_inb (fun r => (Nat.one_mul r.val).symm) rfl r s h

theorem slots_cover : Finset.univ.biUnion slotSet = Finset.univ :=
  Ring.lead_cover (s := S5x256x256) (NB := 5) 0 1 (fun r => ![r.val, 0, 0]) S1x256x256.size slot_inb (fun r => (Nat.one_mul r.val).symm)
    (by decide) rfl (by decide) rfl

theorem slotFree_eq (r : Fin 5) (c : Dev nD) : slotFree (F := F) r c
    = iprop(∃ f : Buf (Elt F) ((c : Thread nD τ).loc cc0_scratch1), (c : Thread nD τ).loc cc0_scratch1 ↦[slotSet r]{fullShare} f) := by
  unfold slotFree slotSet; rw [← slot_set]

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits_intro (F := F) c) $$ Hcr
  unfold G' start
  icases HG with ⟨%K, Hr, Hl⟩
  imodintro
  isplitl
  · isplitr [Hc]
    · iexists K
      iapply (ghost_intro m K c)
      isplitl [Hlev]; · iexact Hlev
      isplitl [Hr] <;> iassumption
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  have hs (f : Buf (Elt F) ((c : Thread nD τ).loc cc0_scratch1)) :
      ((c : Thread nD τ).loc cc0_scratch1 ↦{fullShare} f : sProp 𝕄) ⊢ bigSep Finset.univ fun r => slotFree (F := F) r c := by
    rw [Ring.pointsTo_blocks (ℓ := (c : Thread nD τ).loc cc0_scratch1) slotSet slots_apart slots_cover f]
    refine bigSep_mono fun r _ => ?_
    show ((c : Thread nD τ).loc cc0_scratch1 ↦[slotSet r]{fullShare} f : sProp 𝕄) ⊢ slotFree r c
    rw [slotFree_eq]; iintro H; iexists f; iexact H
  rw [show (dats m 0 c).Φ 0 = Φ₀ m c from rfl, scopedRest0_eq]
  unfold Φ₀ sbAny sbHas
  iintro ⟨Hs, -, ⟨%f, Hb⟩, ⟨%g, Hl⟩⟩
  isplitl [Hs]; · iexact Hs
  isplitl [Hb]; · iexists f; iexact Hb
  iapply (hs g); iexact Hl

theorem phi1_exit (c : Dev nD) :
    (dats m 0 c).Φ (Fin.last cfg0.N) ⊢ iprop(unscopedSems0 c ∗ Pipeline.ownSems0 osem c ∗ Pipeline.scopedRest cfg0.spec c) := by
  have hs : (bigSep Finset.univ fun r => slotFree (F := F) r c)
      ⊢ iprop(∃ f : Buf (Elt F) ((c : Thread nD τ).loc cc0_scratch1), (c : Thread nD τ).loc cc0_scratch1 ↦{fullShare} f) := by
    rw [show (fun r => slotFree (F := F) r c) = _ from funext fun r => slotFree_eq r c]
    exact Ring.pointsTo_blocks_join_exists (ℓ := (c : Thread nD τ).loc cc0_scratch1) slotSet slots_apart slots_cover (fun _ => FloatOps.ofBits .f32 0)
  rw [show (dats m 0 c).Φ (Fin.last cfg0.N) = Φ₁ c from rfl, scopedRest0_eq, ownSems0_eq, unscopedSems0_eq]
  unfold Φ₁ sbAny sbHas
  rw [bigSep_steps (fun r => (semVal (recvCell r c) 0 : sProp 𝕄))]
  iintro ⟨Hb, Hl, HB, HE, HS, HR⟩
  isplitl [HB]; · iexact HB
  isplitl [HE HS HR]
  · isplitl [HE]; · iexact HE
    isplitl [HS] <;> iassumption
  isplitl [Hb]; · iexact Hb
  iapply hs; iexact Hl

theorem waits (c : Dev nD) : (levAts L lv : sProp 𝕄) ⊢ Pipeline.cellsWaits cfgs (dats m) () 0 c :=
  Pipeline.cellsWaits_intro cfgs (dats m) () 0 c fun w s t => by
    have hl : ∀ p ∈ dues c, p.1.1.2 = .tc ∧ semLv (.dma ((cfg0.win w).sem s)) < semLv p.1.2 := by
      have h0 : semLv (.dma ((cfg0.win w).sem s)) = 0 := by fin_cases w <;> fin_cases s <;> decide
      rw [h0]
      intro p hp
      have hp' : p.1.1.2 = .tc ∧ 0 < semLv p.1.2 := by
        rw [dues_eq] at hp
        obtain ⟨q, hq, rfl⟩ := List.mem_map.mp hp
        exact ⟨rfl, owed_level _ (List.mem_map_of_mem hq)⟩
      exact hp'
    rcases t with ⟨_ | _, ht⟩
    · exact mayWait_due c _ (dues c) hl
    · exact mayWait_due c _ [] (fun p hp => absurd hp List.not_mem_nil)

/-! ## The run -/

/-- What window `w`'s array holds on device `c` when the run ends. -/
def atEnd (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = atEnd m c w

set_option maxRecDepth 8000 in
/-- For any float values, every fair run of the thirty-two devices from zero counters ends with every array at its contents
    above and every counter at zero. -/
theorem run_main : θ_run defs (onTc (τ := τ) (main (F := F))) (atLaunch m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold at the end what they held at launch. -/
theorem atEnd_in (c : Dev nD) (w : Fin cfg0.W) (h : (cfg0.win w).isOut = false) : atEnd m c w = m ((cfg0.win w).arr.view.loc (c : Thread nD τ)) :=
  (dats (F := F) m 0 c).arrAt_in w h _

end Cert.Moe

end
-- ==== Proof.Routing.lean ====
/-
# The routing weights and the mixture, as plain functions of the inputs

A token's score for an expert is its row times the expert's column of the router's matrix; the softmax over the
experts gives probabilities; the token's two chosen experts are weighed by their probabilities over the sum of the two.
Both programs compute these numbers. Here are they, as functions of coordinates over the extended reals, and what is
needed of them: with finite inputs the probabilities are positive reals, so a weight may be moved through a sum.
-/
module

public import Idealize.ShloMosaic.Lib.Pointwise

@[expose] public section

noncomputable section

namespace Cert.Moe

open Idealize.ShloMosaic
open scoped BigOperators

/-- The word below every number is the least extended real. -/
theorem ofBits_bot : Ideal.ofBits .f32 0xFF800000#32 = ⊥ := by simp [Ideal.ofBits, Ideal.ieee]

abbrev Tokens : Type := FVec Ideal ⟨2, ![256, 128]⟩ .f32
abbrev Router : Type := FVec Ideal ⟨2, ![128, 64]⟩ .f32
abbrev Choice : Type := IVec ⟨2, ![256, 2]⟩ 32
abbrev Experts : Type := FVec Ideal ⟨3, ![64, 128, 256]⟩ .f32

variable (x : Tokens) (rw : Router) (ix : Choice) (w : Experts)

/-- Token `i`'s score for expert `e`. -/
def score (i : Fin 256) (e : Fin 64) : EReal := ∑ d : Fin 128, x (ix2 i d) * rw (ix2 d e)

/-- Token `i`'s greatest score. -/
def top (i : Fin 256) : EReal := (Finset.univ : Finset (Fin 64)).fold max ⊥ fun e => score x rw i e

def up (i : Fin 256) (e : Fin 64) : EReal := Ideal.exp (score x rw i e - top x rw i)

/-- The softmax over the experts. -/
def prob (i : Fin 256) (e : Fin 64) : EReal := Ideal.div (up x rw i e) (∑ e' : Fin 64, up x rw i e')

/-- The expert token `i` names in place `k`. -/
def slot (i : Fin 256) (k : Fin 2) : Fin 64 := ⟨(ix (ix2 i k)).toNat % 64, Nat.mod_lt _ (by decide)⟩

/-- Every named expert exists. -/
def InRange : Prop := ∀ i k, ix (ix2 i k) = BitVec.ofNat 32 (slot ix i k).val

def gate (i : Fin 256) (k : Fin 2) : EReal := prob x rw i (slot ix i k)
def gates (i : Fin 256) : EReal := gate x rw ix i 0 + gate x rw ix i 1

/-- Token `i` through expert `e`, output column `j`. -/
def through (i : Fin 256) (j : Fin 256) (e : Fin 64) : EReal := ∑ d : Fin 128, x (ix2 i d) * w (ix3 e d j)

/-- The mixture of the two named experts. -/
def mix (i j : Fin 256) : EReal :=
  Ideal.div (gate x rw ix i 0) (gates x rw ix i) * through x w i j (slot ix i 0)
    + Ideal.div (gate x rw ix i 1) (gates x rw ix i) * through x w i j (slot ix i 1)

/-- What place `k` of token `i` gives expert `e`: its probability if it names that expert. -/
def share (i : Fin 256) (e : Fin 64) (k : Fin 2) : EReal := if slot ix i k = e then gate x rw ix i k else 0

/-- Expert `e`'s weight for token `i`. -/
def weight (i : Fin 256) (e : Fin 64) : EReal :=
  Ideal.div (share x rw ix i e 0 + share x rw ix i e 1) (gates x rw ix i)

/-- Expert `e`'s contribution, the weight applied to the token before the product. -/
def given (i j : Fin 256) (e : Fin 64) : EReal := ∑ d : Fin 128, x (ix2 i d) * weight x rw ix i e * w (ix3 e d j)

/-! ## Positive reals -/

/-- A positive real. -/
def Pos (a : EReal) : Prop := ∃ r : ℝ, 0 < r ∧ a = r

theorem Pos.add {a b : EReal} : Pos a → Pos b → Pos (a + b) := by
  rintro ⟨r, hr, rfl⟩ ⟨s, hs, rfl⟩
  exact ⟨r + s, by positivity, by push_cast; rfl⟩

theorem Pos.sum {ι : Type} [Fintype ι] [Nonempty ι] {f : ι → EReal} (h : ∀ k, Pos (f k)) : Pos (∑ k, f k) := by
  choose r hr hf using h
  refine ⟨∑ k, r k, Finset.sum_pos (fun k _ => hr k) Finset.univ_nonempty, ?_⟩
  simp only [hf]
  exact (map_sum (⟨⟨Real.toEReal, EReal.coe_zero⟩, EReal.coe_add⟩ : ℝ →+ EReal) r _).symm

theorem div_coe {s : ℝ} (hs : 0 < s) (a : EReal) : Ideal.div a (s : EReal) = a * ((s⁻¹ : ℝ) : EReal) := by
  unfold Ideal.div
  rw [if_neg (by exact_mod_cast hs.ne'), EReal.coe_inv]

theorem Pos.div {a b : EReal} : Pos a → Pos b → Pos (Ideal.div a b) := by
  rintro ⟨r, hr, rfl⟩ ⟨s, hs, rfl⟩
  exact ⟨r * s⁻¹, by positivity, by rw [div_coe hs]; push_cast; rfl⟩

/-- All entries finite. -/
def Finite {s : Shape} (v : FVec Ideal s .f32) : Prop := ∀ a, ∃ r : ℝ, v a = (r : EReal)

section
variable {x rw ix w}

theorem score_real (hx : Finite x) (hr : Finite rw) (i : Fin 256) (e : Fin 64) : ∃ s : ℝ, score x rw i e = s := by
  choose a ha using hx
  choose b hb using hr
  refine ⟨∑ d : Fin 128, a (ix2 i d) * b (ix2 d e), ?_⟩
  unfold score
  simp only [ha, hb, ← EReal.coe_mul]
  exact (map_sum (⟨⟨Real.toEReal, EReal.coe_zero⟩, EReal.coe_add⟩ : ℝ →+ EReal) (fun d => a (ix2 i d) * b (ix2 d e)) _).symm

theorem top_real (hx : Finite x) (hr : Finite rw) (i : Fin 256) : ∃ s : ℝ, top x rw i = s := by
  have hs := score_real hx hr i
  have h1 : top x rw i ≠ ⊤ := ne_of_lt ((Finset.fold_max_lt _).mpr ⟨bot_lt_top, fun e _ => by
    obtain ⟨s, h⟩ := hs e; rw [h]; exact EReal.coe_lt_top s⟩)
  have h2 : top x rw i ≠ ⊥ := ne_of_gt ((Finset.lt_fold_max _).mpr (Or.inr ⟨0, Finset.mem_univ _, by
    obtain ⟨s, h⟩ := hs 0; rw [h]; exact EReal.bot_lt_coe s⟩))
  exact ⟨_, (EReal.coe_toReal h1 h2).symm⟩

theorem prob_pos (hx : Finite x) (hr : Finite rw) (i : Fin 256) (e : Fin 64) : Pos (prob x rw i e) := by
  obtain ⟨t, ht⟩ := top_real hx hr i
  have hu : ∀ e, Pos (up x rw i e) := fun e => by
    obtain ⟨s, hs⟩ := score_real hx hr i e
    exact ⟨Real.exp (s - t), Real.exp_pos _, by rw [up, hs, ht, ← EReal.coe_sub, Ideal.exp_coe]⟩
  exact (hu e).div (Pos.sum hu)

theorem gate_pos (hx : Finite x) (hr : Finite rw) (i : Fin 256) (k : Fin 2) : Pos (gate x rw ix i k) :=
  prob_pos hx hr _ _

theorem gates_pos (hx : Finite x) (hr : Finite rw) (i : Fin 256) : Pos (gates x rw ix i) :=
  (gate_pos hx hr i 0).add (gate_pos hx hr i 1)

/-! ## Moving a weight through a sum -/

/-- A non-negative real factor comes out of a sum, whatever the terms are. -/
theorem sum_mul_real {ι : Type} (S : Finset ι) {r : ℝ} (hr : 0 ≤ r) (f : ι → EReal) :
    ∑ k ∈ S, (r : EReal) * f k = r * ∑ k ∈ S, f k := by
  classical
  induction S using Finset.induction_on with
  | empty => simp
  | insert a S ha ih =>
    rw [Finset.sum_insert ha, Finset.sum_insert ha, ih]
    exact (EReal.left_distrib_of_nonneg_of_ne_top (by exact_mod_cast hr) (EReal.coe_ne_top r) _ _).symm

theorem share_real (hx : Finite x) (hr : Finite rw) (i : Fin 256) (e : Fin 64) (k : Fin 2) :
    ∃ r : ℝ, 0 ≤ r ∧ share x rw ix i e k = r := by
  unfold share
  split
  · obtain ⟨r, h, e⟩ := gate_pos (ix := ix) hx hr i k; exact ⟨r, h.le, e⟩
  · exact ⟨0, le_refl _, rfl⟩

/-- Expert `e`'s contribution is what each of the two places gives it, times the token through the expert. -/
theorem given_eq (hx : Finite x) (hr : Finite rw) (i j : Fin 256) (e : Fin 64) :
    given x rw ix w i j e = Ideal.div (share x rw ix i e 0) (gates x rw ix i) * through x w i j e
      + Ideal.div (share x rw ix i e 1) (gates x rw ix i) * through x w i j e := by
  obtain ⟨s, hs, es⟩ := gates_pos (ix := ix) hx hr i
  obtain ⟨a, ha, ea⟩ := share_real (ix := ix) hx hr i e 0
  obtain ⟨b, hb, eb⟩ := share_real (ix := ix) hx hr i e 1
  have hi : 0 ≤ s⁻¹ := (inv_pos.mpr hs).le
  have hw : weight x rw ix i e = (((a + b) * s⁻¹ : ℝ) : EReal) := by
    rw [weight, ea, eb, es, div_coe hs]; push_cast; rfl
  unfold given
  rw [hw, ea, eb, es, div_coe hs, div_coe hs, ← EReal.coe_mul, ← EReal.coe_mul,
    ← EReal.right_distrib_of_nonneg (by exact_mod_cast mul_nonneg ha hi) (by exact_mod_cast mul_nonneg hb hi),
    ← EReal.coe_add, ← add_mul]
  refine Eq.trans (Finset.sum_congr rfl fun d _ => ?_) (sum_mul_real Finset.univ (mul_nonneg (add_nonneg ha hb) hi) _)
  rw [mul_comm (x (ix2 i d)), mul_assoc]

/-- Summed over the experts, what place `k` gives goes to the one expert it names. -/
theorem place_sum (hx : Finite x) (hr : Finite rw) (i j : Fin 256) (k : Fin 2) :
    ∑ e : Fin 64, Ideal.div (share x rw ix i e k) (gates x rw ix i) * through x w i j e
      = Ideal.div (gate x rw ix i k) (gates x rw ix i) * through x w i j (slot ix i k) := by
  obtain ⟨s, hs, es⟩ := gates_pos (ix := ix) hx hr i
  rw [Finset.sum_eq_single (slot ix i k)]
  · rw [share, if_pos rfl]
  · intro e _ he
    rw [share, if_neg (Ne.symm he), es, div_coe hs, zero_mul, zero_mul]
  · intro h; exact absurd (Finset.mem_univ _) h

/-- The experts' contributions add up to the mixture. -/
theorem given_sum (hx : Finite x) (hr : Finite rw) (i j : Fin 256) :
    ∑ e : Fin 64, given x rw ix w i j e = mix x rw ix w i j := by
  simp only [given_eq hx hr, Finset.sum_add_distrib, place_sum hx hr]
  rfl

end

/-- A sum over the experts, two to a device. -/
theorem sum_pairs (f : Fin 64 → EReal) :
    ∑ c : Fin 32, (f ⟨2 * c.val, by omega⟩ + f ⟨2 * c.val + 1, by omega⟩) = ∑ e, f e := by
  rw [← (finProdFinEquiv (m := 32) (n := 2)).sum_comp f, Fintype.sum_prod_type]
  refine Finset.sum_congr rfl fun c _ => ?_
  rw [Fin.sum_univ_two]
  congr 2 <;> refine Fin.ext ?_ <;> simp [finProdFinEquiv]
  omega

end Cert.Moe
-- ==== Proof.Part.lean ====
/-
# A device's own part, entry by entry

With every named expert in range, the kernel's arithmetic on device `c` before the exchange is, at each entry, the
contributions of experts `2c` and `2c + 1`.
-/
module

public import proofs.«01_k».proof.Proof.Sched
public import proofs.«01_k».proof.Proof.Routing

@[expose] public section

noncomputable section

namespace Cert.Moe

open Cert.KernelIdeal Cert.KernelIdeal.Gen
open Idealize.ShloMosaic
open scoped BigOperators

/-- A choice on the equality of two words. -/
theorem select_word_eq {α : Type} (a b : BitVec 32) (x y : α) :
    Scalar.select (IntOp.cmpi .eq a b) x y = if a = b then x else y := by
  by_cases h : a = b
  · subst h; simp [IntOp.cmpi, Scalar.select]
  · have hb : (a == b) = false := by simpa using h
    simp [IntOp.cmpi, Scalar.select, h, hb]

theorem word_eq_iff (a b : Fin 64) : BitVec.ofNat 32 a.val = BitVec.ofNat 32 b.val ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- The two experts of device `c`. -/
def mine (c : Dev nD) (k : Fin 2) : Fin 64 := ⟨2 * c.val + k.val, by have h : c.val < 32 := c.isLt; omega⟩

/-- Their numbers, as device `c` computes them. -/
theorem first_expert (c : Dev nD) :
    Scalar.addi (Scalar.muli (Scalar.remsi (Scalar.divsi (Dev.word c) 1#32) 32#32) 2#32) 0#32 = BitVec.ofNat 32 (mine c 0).val := by
  revert c; decide +kernel
theorem second_expert (c : Dev nD) :
    Scalar.addi (Scalar.muli (Scalar.remsi (Scalar.divsi (Dev.word c) 1#32) 32#32) 2#32) 1#32 = BitVec.ofNat 32 (mine c 1).val := by
  revert c; decide +kernel

section
variable (x : Tokens) (rw : Router) (ix : Choice)

theorem pay1_eq : k0_pay1 (F := Ideal) x = x := by
  unfold k0_pay1; exact shapeCast_self _ _

theorem scores_at (i : Fin 256) (e : Fin 64) : k0_pay2 (F := Ideal) x rw (ix2 i e) = score x rw i e := by
  pointwise [k0_pay2, k0_pay1]
  rfl

theorem probs_at (i : Fin 256) (e : Fin 64) : k0_pay3 (F := Ideal) (k0_pay2 x rw) (ix2 i e) = prob x rw i e := by
  pointwise [k0_pay3]
  simp only [scores_at, ofBits_bot]
  rfl

/-- The row reduction over a comparison picks the named expert's probability. -/
theorem picked_at (v : Vec Ideal S256x1 .i32) (i : Fin 256) (k : Fin 2) (hv : v (ix2 i 0) = BitVec.ofNat 32 (slot ix i k).val) :
    k0_pay6 (F := Ideal) (k0_pay2 x rw) v (ix2 i 0) = gate x rw ix i k := by
  pointwise [k0_pay6, k0_pay4]
  simp only [hv, select_word_eq, word_eq_iff, probs_at, Finset.sum_ite_eq', Finset.mem_univ, if_true]
  rfl

theorem picked_at' (v : Vec Ideal S256x1 .i32) (i : Fin 256) (k : Fin 2) (hv : v (ix2 i 0) = BitVec.ofNat 32 (slot ix i k).val) :
    k0_pay7 (F := Ideal) (k0_pay2 x rw) v (ix2 i 0) = gate x rw ix i k :=
  picked_at x rw ix v i k hv

/-- A column of the choices, as loaded. -/
theorem column_at (o : Fin 2 → ℕ) (k : Fin 2) (ho : o = ![0, k.val]) (h) (i : Fin 256) :
    ixM.view.readAt (Elt Ideal) (Rect.unit (s := S256x2) o S256x1.size h).toLoadRect ix (ix2 i 0) = ix (ix2 i k) := by
  subst ho
  show ix ((Rect.unit (s := S256x2) ![0, k.val] S256x1.size h).toLoadRect.idx (ix2 i 0)) = _
  refine congrArg ix (funext fun a => Fin.ext ?_)
  match a with
  | ⟨0, _⟩ => show 0 + 1 * i.val = i.val; omega
  | ⟨1, _⟩ => show k.val + 1 * 0 = k.val; omega

/-- One of a device's two matrices, as loaded. -/
theorem half_at (ew : Vec Ideal S2x128x256 .f32) (o : Fin 3 → ℕ) (k : Fin 2) (ho : o = ![k.val, 0, 0]) (h) (d : Fin 128) (j : Fin 256) :
    ewM.view.readAt (Elt Ideal) (Rect.unit (s := S2x128x256) o S1x128x256.size h).toLoadRect ew (ix3 0 d j) = ew (ix3 k d j) := by
  subst ho
  show ew ((Rect.unit (s := S2x128x256) ![k.val, 0, 0] S1x128x256.size h).toLoadRect.idx (ix3 0 d j)) = _
  refine congrArg ew (funext fun a => Fin.ext ?_)
  match a with
  | ⟨0, _⟩ => show k.val + 1 * 0 = k.val; omega
  | ⟨1, _⟩ => show 0 + 1 * d.val = d.val; omega
  | ⟨2, _⟩ => show 0 + 1 * j.val = j.val; omega

/-- The sum of the two products, from what the loaded blocks hold. -/
theorem products_at (w : Experts) (c : Dev nD) (v0 v1 : Vec Ideal S256x1 .i32) (w0 w1 : Vec Ideal S1x128x256 .f32) (i j : Fin 256)
    (h0 : v0 (ix2 i 0) = BitVec.ofNat 32 (slot ix i 0).val) (h1 : v1 (ix2 i 0) = BitVec.ofNat 32 (slot ix i 1).val)
    (e0 : ∀ d, w0 (ix3 0 d j) = w (ix3 (mine c 0) d j)) (e1 : ∀ d, w1 (ix3 0 d j) = w (ix3 (mine c 1) d j)) :
    k0_pay11 (F := Ideal) (Scalar.remsi (Scalar.divsi (Dev.word c) 1#32) 32#32) (k0_pay1 x) (k0_pay4 v0) (k0_pay5 v1)
        (k0_pay6 (k0_pay2 x rw) v0) (k0_pay7 (k0_pay2 x rw) v1) (k0_pay8 (k0_pay2 x rw) v0 v1) k0_pay9
        (k0_pay10 (Scalar.remsi (Scalar.divsi (Dev.word c) 1#32) 32#32) (k0_pay1 x) (k0_pay2 x rw) v0 v1) w0 w1 (ix2 i j)
      = given x rw ix w i j (mine c 0) + given x rw ix w i j (mine c 1) := by
  pointwise [k0_pay11, k0_pay10, k0_pay9, k0_pay8, k0_pay4, k0_pay5, pay1_eq]
  simp only [h0, h1, e0, e1, first_expert, second_expert, select_word_eq, word_eq_iff,
    picked_at x rw ix v0 i 0 h0, picked_at' x rw ix v1 i 1 h1]
  rfl

/-- Device `c`'s part. -/
theorem part_at (w : Experts) (ew : Vec Ideal S2x128x256 .f32) (c : Dev nD) (hix : InRange ix)
    (hw : ∀ (k : Fin 2) d j, ew (ix3 k d j) = w (ix3 (mine c k) d j)) (i j : Fin 256) :
    part (F := Ideal) c x rw ix ew (ix2 i j) = given x rw ix w i j (mine c 0) + given x rw ix w i j (mine c 1) := by
  unfold part
  exact products_at x rw ix w c _ _ _ _ i j
    ((column_at ix _ 0 rfl _ i).trans (hix i 0)) ((column_at ix _ 1 rfl _ i).trans (hix i 1))
    (fun d => (half_at ew _ 0 rfl _ d j).trans (hw 0 d j)) (fun d => (half_at ew _ 1 rfl _ d j).trans (hw 1 d j))
end

end Cert.Moe
-- ==== Proof.Ref.lean ====
/-
# The reference, entry by entry

With every named expert in range, the reference's result is the mixture: its wrap of negative indices and its gathers'
clamps change nothing, and each of its two batched products sends a token through the expert it names.
-/
module

public import proofs.«01_k».proof.Proof.Gen.ReferenceIdeal
public import proofs.«01_k».proof.Proof.Gen.ReferenceIdeal.Run
public import proofs.«01_k».proof.Proof.Routing

@[expose] public section

noncomputable section

namespace Cert.Moe.Ref

open Cert.ReferenceIdeal Cert.ReferenceIdeal.Gen
open Idealize.ShloMosaic
open scoped BigOperators

/-- A coordinate of a gathered index on an axis that start indices name and the result does not keep. -/
theorem named_coord {s si t : Shape} (G : GatherDims s si t) {n : ℕ} (y : t.Idx) (v : IVec si n) (a : Fin s.rank)
    (hm : a ∈ G.startIndexMap) (hb : a ∉ G.operandBatchingDims) (ho : a ∉ G.sKept) (z : si.Idx)
    (hz : G.siIdx y ⟨G.startIndexMap.idxOf a, List.idxOf_lt_length_iff.2 hm⟩ = z) :
    G.start y v a + G.batchCoord y a + G.offCoord y a = min (v z).toInt.toNat (s.size a - G.sliceSizes a) := by
  rw [GatherDims.batchCoord_eq_zero _ _ _ hb, GatherDims.offCoord, dif_neg ho, GatherDims.start, dif_pos hm, hz]
  rfl

/-- A coordinate on an axis the result keeps and no start index names. -/
theorem kept_coord {s si t : Shape} (G : GatherDims s si t) {n : ℕ} (y : t.Idx) (v : IVec si n) (a : Fin s.rank)
    (hm : a ∉ G.startIndexMap) (hb : a ∉ G.operandBatchingDims) (ho : a ∈ G.sKept) :
    G.start y v a + G.batchCoord y a + G.offCoord y a
      = (y (G.offsetDims[G.sKept.idxOf a]'(by rw [G.offset_length]; exact List.idxOf_lt_length_iff.2 ho))).val := by
  rw [GatherDims.batchCoord_eq_zero _ _ _ hb, GatherDims.offCoord, dif_pos ho, GatherDims.start, dif_neg hm]
  omega

abbrev entryDims : GatherDims S256x64 S256x2 S256 := gather_S256x64_S256x2_S256_n_01_n_n_01_1_11
abbrev matrixDims : GatherDims S64x128x256 S256x1 S256x128x256 := gather_S64x128x256_S256x1_S256x128x256_12_0_n_n_0_1_1128256

/-- A row-and-column gather of a table: the entry named, both coordinates clamped. -/
theorem entry_at (p : FVec Ideal S256x64 .f32) (v : IVec S256x2 32) (i : Fin 256) :
    Host.gather gather_S256x64_S256x2_S256_n_01_n_n_01_1_11 p v (ix1 i)
      = p (ix2 ⟨min (v (ix2 i 0)).toInt.toNat 255, by omega⟩ ⟨min (v (ix2 i 1)).toInt.toNat 63, by omega⟩) := by
  unfold Host.gather
  refine congrArg p (funext fun a => Fin.ext ?_)
  match a with
  | ⟨0, _⟩ =>
    refine named_coord entryDims (ix1 i) v (0 : Fin 2) (by decide) (by decide) (by decide) (ix2 i 0) (funext fun b => Fin.ext ?_)
    match b with
    | ⟨0, _⟩ => rfl
    | ⟨1, _⟩ => rfl
  | ⟨1, _⟩ =>
    refine named_coord entryDims (ix1 i) v (1 : Fin 2) (by decide) (by decide) (by decide) (ix2 i 1) (funext fun b => Fin.ext ?_)
    match b with
    | ⟨0, _⟩ => rfl
    | ⟨1, _⟩ => rfl

/-- A gather of matrices along the first axis: the matrix named, clamped. -/
theorem matrix_at (w : FVec Ideal S64x128x256 .f32) (v : IVec S256x1 32) (i : Fin 256) (d : Fin 128) (j : Fin 256) :
    Host.gather gather_S64x128x256_S256x1_S256x128x256_12_0_n_n_0_1_1128256 w v (ix3 i d j)
      = w (ix3 ⟨min (v (ix2 i 0)).toInt.toNat 63, by omega⟩ d j) := by
  unfold Host.gather
  refine congrArg w (funext fun a => Fin.ext ?_)
  match a with
  | ⟨0, _⟩ =>
    refine named_coord matrixDims (ix3 i d j) v (0 : Fin 3) (by decide) (by decide) (by decide) (ix2 i 0) (funext fun b => Fin.ext ?_)
    match b with
    | ⟨0, _⟩ => rfl
    | ⟨1, _⟩ => rfl
  | ⟨1, _⟩ => exact kept_coord matrixDims (ix3 i d j) v (1 : Fin 3) (by decide) (by decide) (by decide)
  | ⟨2, _⟩ => exact kept_coord matrixDims (ix3 i d j) v (2 : Fin 3) (by decide) (by decide) (by decide)

/-- The wrap of a negative index and the gather's clamp change neither a row's number … -/
theorem row_named (i : Fin 256) (h) :
    (⟨min (Scalar.select (IntOp.cmpi .slt (BitVec.ofNat 32 i.val) 0#32) (IntOp.addi (BitVec.ofNat 32 i.val) 256#32)
      (BitVec.ofNat 32 i.val)).toInt.toNat 255, h⟩ : Fin 256) = i := by
  refine Fin.ext ?_
  show min (Scalar.select (IntOp.cmpi .slt (BitVec.ofNat 32 i.val) 0#32) (IntOp.addi (BitVec.ofNat 32 i.val) 256#32)
      (BitVec.ofNat 32 i.val)).toInt.toNat 255 = i.val
  clear h; revert i; decide +kernel

/-- … nor an expert's. -/
theorem expert_named (e : Fin 64) (h) :
    (⟨min (Scalar.select (IntOp.cmpi .slt (BitVec.ofNat 32 e.val) 0#32) (IntOp.addi (BitVec.ofNat 32 e.val) 64#32)
      (BitVec.ofNat 32 e.val)).toInt.toNat 63, h⟩ : Fin 64) = e := by
  refine Fin.ext ?_
  show min (Scalar.select (IntOp.cmpi .slt (BitVec.ofNat 32 e.val) 0#32) (IntOp.addi (BitVec.ofNat 32 e.val) 64#32)
      (BitVec.ofNat 32 e.val)).toInt.toNat 63 = e.val
  clear h; revert e; decide +kernel

variable (m : (ℓ : Loc nD τ sig) → Buf (Elt Ideal) ℓ) (c : Dev nD)

/-- The reference's result. -/
theorem res_at (hix : InRange (m ((c.tc : Thread nD τ).loc main_arg2))) (i j : Fin 256) :
    Value.res_out0 m c (ix2 i j) = mix (m ((c.tc : Thread nD τ).loc main_arg0)) (m ((c.tc : Thread nD τ).loc main_arg1))
      (m ((c.tc : Thread nD τ).loc main_arg2)) (m ((c.tc : Thread nD τ).loc main_arg3)) i j := by
  have h0 := hix i 0
  have h1 := hix i 1
  pointwise [Value.res_out0, Value.res_main_v68]
  simp only [entry_at, matrix_at]
  pointwise
  simp only [h0, h1, row_named, expert_named, ofBits_bot]
  rfl

end Cert.Moe.Ref
-- ==== Proof.Value.lean ====
/-
# The value claim

Each device ends with the sum of all devices' parts; that sum is the mixture, which is what the reference computes.
-/
module

public import proofs.«01_k».proof.Defs
public import proofs.«01_k».proof.Proof.Gen.Pre_in_range_KernelIdeal
public import proofs.«01_k».proof.Proof.Launch
public import proofs.«01_k».proof.Proof.Part
public import proofs.«01_k».proof.Proof.Ref
public import Idealize.ShloMosaic.Lib.ReduceAll
public import Idealize.ShloMosaic.Lib.Layout

@[expose] public section

noncomputable section

namespace Cert.Moe

open Cert.KernelIdeal Cert.KernelIdeal.Gen
open Idealize.ShloMosaic Idealize.SL.Sem
open scoped BigOperators

/-! ## What the precondition says -/

theorem ofBits_top : Ideal.ofBits .f32 0x7F800000#32 = ⊤ := by simp [Ideal.ofBits, Ideal.ieee]

/-- An absolute value below the greatest extended real is that of a real. -/
theorem real_of_abs {a : EReal} (h : Ideal.cmp .olt (max a (-a)) ⊤ = 1#1) : ∃ r : ℝ, a = r := by
  induction a with
  | bot => simp [Ideal.cmp] at h
  | top => simp [Ideal.cmp] at h
  | coe r => exact ⟨r, rfl⟩

/-- A word between 0 and 63 is the word of its remainder by 64. -/
theorem word_of_range {v : BitVec 32} (h0 : (0 : ℤ) ≤ v.toInt) (h1 : v.toInt < 64) : v = BitVec.ofNat 32 (v.toNat % 64) := by
  apply BitVec.eq_of_toNat_eq
  rw [BitVec.toNat_ofNat]
  have := v.isLt
  rw [BitVec.toInt_eq_toNat_cond] at h0 h1
  split at h0 <;> omega

theorem pre_says (x : Tokens) (rw : Router) (ix : Choice) (ew : FVec Ideal ⟨3, ![2, 128, 256]⟩ .f32)
    (h : Cert.Pre_in_range_KernelIdeal.fn (F := Ideal) x rw ix ew = fun _ => 1#1) : Finite x ∧ Finite rw ∧ InRange ix := by
  have hs : Subsingleton (Cert.Pre_in_range_KernelIdeal.S_).Idx := ⟨fun a b => funext fun d => d.elim0⟩
  have h := congrFun h (fun a => a.elim0)
  unfold Cert.Pre_in_range_KernelIdeal.fn at h
  obtain ⟨h, hi⟩ := IntOp.andi_eq_one.1 h
  obtain ⟨hx, hr⟩ := IntOp.andi_eq_one.1 h
  have hx := Host.reduce_andi_all _ _ _ _ _ hx
  have hr := Host.reduce_andi_all _ _ _ _ _ hr
  have hi := Host.reduce_andi_all _ _ _ _ _ hi
  refine ⟨fun a => real_of_abs ?_, fun a => real_of_abs ?_, fun i k => ?_⟩
  · rw [← ofBits_top]; exact hx a
  · rw [← ofBits_top]; exact hr a
  · obtain ⟨h0, h1⟩ := IntOp.andi_eq_one.1 (hi (ix2 i k))
    exact word_of_range (IntOp.cmpi_sge.1 h0) (IntOp.cmpi_slt.1 h1)

/-! ## The exchange adds up every device's part -/

section
variable (m : (ℓ : Loc nD τ sig) → Buf (Elt Ideal) ℓ)

/-- Before the first step, by a device's number (zero past the last). -/
def partOf (a : S256x256.Idx) (n : ℕ) : EReal := if h : n < 32 then acc m 0 ⟨n, h⟩ a else 0

theorem xor_low : ∀ r : Fin 5, ∀ k : Fin 32, k.val < 2 ^ r.val → 2 ^ r.val ^^^ k.val = 2 ^ r.val + k.val := by decide +kernel

/-- After `r` steps a device holds the parts of the `2 ^ r` devices whose numbers differ from its own in the low `r` bits. -/
theorem acc_sum (a : S256x256.Idx) (r : ℕ) (hr : r ≤ 5) : ∀ c : Dev nD,
    acc m r c a = ∑ k ∈ Finset.range (2 ^ r), partOf m a (c.val ^^^ k) := by
  induction r with
  | zero =>
    intro c
    have hc : c.val < 32 := c.isLt
    rw [pow_zero, Finset.sum_range_one, Nat.xor_zero, partOf, dif_pos hc]
  | succ r ih =>
    intro c
    have hr' : r < 5 := hr
    have e := congrFun (acc_succ m (⟨r, hr'⟩ : Fin 5) c) a
    refine e.trans ?_
    show acc m r c a + acc m r (peer ⟨r, hr'⟩ c) a = _
    rw [ih hr'.le, ih hr'.le, pow_succ, mul_two, Finset.sum_range_add]
    refine congrArg _ (Finset.sum_congr rfl fun k hk => ?_)
    have hk := Finset.mem_range.1 hk
    have h32 : 2 ^ r ≤ 2 ^ 5 := Nat.pow_le_pow_right (by decide) hr'.le
    show partOf m a ((c.val ^^^ 2 ^ r) ^^^ k) = _
    rw [Nat.xor_assoc, xor_low ⟨r, hr'⟩ ⟨k, by omega⟩ hk]

/-- After the last, those of all. -/
theorem acc_all (a : S256x256.Idx) (c : Dev nD) : acc m 5 c a = ∑ c' : Fin 32, acc m 0 c' a := by
  have hc : c.val < 32 := c.isLt
  have hlt : ∀ k : Fin 32, c.val ^^^ k.val < 32 := fun k => Nat.xor_lt_two_pow (n := 5) hc k.isLt
  rw [acc_sum m a 5 (le_refl _) c, show 2 ^ 5 = 32 from rfl, Finset.sum_range]
  refine Fintype.sum_bijective (fun k : Fin 32 => (⟨c.val ^^^ k.val, hlt k⟩ : Fin 32)) (Function.Involutive.bijective fun k => Fin.ext ?_) _ _ fun k => ?_
  · show c.val ^^^ (c.val ^^^ k.val) = k.val
    rw [← Nat.xor_assoc, Nat.xor_self, Nat.zero_xor]
  · rw [partOf, dif_pos (hlt k)]

/-! ## The arrays -/

theorem x_read (c : Dev nD) : xAt m c = m ((c.tc : Thread nD τ).loc main_arg0) :=
  Memref.read_access_unit_zero (Elt Ideal) main_arg0 (funext fun a => by fin_cases a <;> decide) (fun a => by fin_cases a <;> decide) _
theorem rw_read (c : Dev nD) : rwAt m c = m ((c.tc : Thread nD τ).loc main_arg1) :=
  Memref.read_access_unit_zero (Elt Ideal) main_arg1 (funext fun a => by fin_cases a <;> decide) (fun a => by fin_cases a <;> decide) _
theorem ix_read (c : Dev nD) : ixAt m c = m ((c.tc : Thread nD τ).loc main_arg2) :=
  Memref.read_access_unit_zero (Elt Ideal) main_arg2 (funext fun a => by fin_cases a <;> decide) (fun a => by fin_cases a <;> decide) _
theorem ew_read (c : Dev nD) : ewAt m c = m ((c.tc : Thread nD τ).loc main_arg3) :=
  Memref.read_access_unit_zero (Elt Ideal) main_arg3 (funext fun a => by fin_cases a <;> decide) (fun a => by fin_cases a <;> decide) _

/-- The result array ends as the last sum. -/
theorem result_read (c : Dev nD) : atEnd m c 4 = acc m 5 c := by
  have h : (win0_4.blk (0 : Fin 1)).view.read (Elt Ideal) (atEnd m c 4) = acc m 5 c := by
    unfold atEnd
    rw [show cfg0.N = ((0 : Fin 1) : Fin cfg0.N).val + 1 from rfl, (dats m 0 c).arrAt_succ (4 : Fin 5) (0 : Fin 1),
      show (cfg0.win (4 : Fin 5)).flush (0 : Fin 1) = true from by decide, if_pos rfl]
    exact View.read_write_univ _ _
  rw [← h]
  exact (Memref.read_access_unit_zero (Elt Ideal) main_v1 (funext fun a => by fin_cases a <;> decide) (fun a => by fin_cases a <;> decide) _).symm

/-- With the inputs every device holds, the last sum is the mixture. -/
theorem acc_mix (x : Tokens) (rw : Router) (ix : Choice) (w : Experts) (hx : Finite x) (hr : Finite rw) (hix : InRange ix)
    (h0 : ∀ c : Dev nD, m ((c.tc : Thread nD τ).loc main_arg0) = x) (h1 : ∀ c : Dev nD, m ((c.tc : Thread nD τ).loc main_arg1) = rw)
    (h2 : ∀ c : Dev nD, m ((c.tc : Thread nD τ).loc main_arg2) = ix)
    (h3 : ∀ c : Dev nD, m ((c.tc : Thread nD τ).loc main_arg3) = Layout.block ⟨3, ![2, 128, 256]⟩ ⟨3, ![64, 128, 256]⟩ 0 32 c w)
    (c : Dev nD) (i j : Fin 256) : acc m 5 c (ix2 i j) = mix x rw ix w i j := by
  rw [acc_all, ← given_sum hx hr, ← sum_pairs]
  refine Finset.sum_congr rfl fun c' _ => ?_
  rw [acc, x_read, rw_read, ix_read, ew_read, h0, h1, h2, h3]
  refine part_at x rw ix w _ c' hix (fun k d j => ?_) i j
  rw [Layout.block_apply]
  refine congrArg w (funext fun a => Fin.ext ?_)
  match a with
  | ⟨0, _⟩ => show c'.val * 2 + k.val = 2 * c'.val + k.val; omega
  | ⟨1, _⟩ => rfl
  | ⟨2, _⟩ => rfl
end

/-- The kernel and the reference end with the same result. -/
theorem value : Cert.algebraic_KernelIdeal_ReferenceIdeal_pre_in_range_KernelIdeal := by
  intro m ρ m' ρ' hpre hagree
  obtain ⟨hx, hr, hix⟩ := pre_says _ _ _ _ (hpre 0)
  rw [(hagree 0).1] at hx
  rw [(hagree 0).2.1] at hr
  rw [(hagree 0).2.2.1] at hix
  refine ⟨Cert.ReferenceIdeal.Value.res_out0 m' 0, ?_, ?_⟩
  · refine (θ_run defs _ _).mono (fun _ h c => ⟨(h.1 c 4).trans ?_, (h.1 c 0).trans (atEnd_in m c 0 rfl),
      (h.1 c 1).trans (atEnd_in m c 1 rfl), (h.1 c 2).trans (atEnd_in m c 2 rfl), (h.1 c 3).trans (atEnd_in m c 3 rfl)⟩)
      (run_main (F := Ideal) m ρ)
    rw [result_read]
    funext a
    obtain ⟨i, j, rfl⟩ : ∃ (i j : Fin 256), a = ix2 i j := ⟨a 0, a 1, ValueIdx.eq_ix2 a⟩
    exact (acc_mix m _ _ _ _ hx hr hix (fun c => (hagree c).1) (fun c => (hagree c).2.1) (fun c => (hagree c).2.2.1)
      (fun c => (hagree c).2.2.2) c i j).trans (Ref.res_at m' 0 hix i j).symm
  · exact (θ_run Cert.ReferenceIdeal.defs _ _).mono (fun _ h => h 0) (Cert.ReferenceIdeal.Value.run (F := Ideal) m' ρ')

end Cert.Moe

end
-- ==== Proof.lean ====
/-
# The certificate's claims

The run of the kernel (Proof/Launch.lean) is stated for any float values, so one theorem gives the frames of the program at
its bits and at the extended reals; the reference's run gives its frame; Proof/Value.lean gives the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- What the claims of both programs ask of a final state: arguments as at launch, counters at zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono
    (fun _ h => ⟨fun c => ⟨(h.1 c 0).trans (Cert.Moe.atEnd_in m c 0 rfl), (h.1 c 1).trans (Cert.Moe.atEnd_in m c 1 rfl),
      (h.1 c 2).trans (Cert.Moe.atEnd_in m c 2 rfl), (h.1 c 3).trans (Cert.Moe.atEnd_in m c 3 rfl)⟩, h.2⟩)
    (Cert.Moe.run_main m ρ)

/-- The two programs have the same text: label by label the same bodies, -/
theorem labels_eq {F : FTy → Type} [FloatOps F] : (Cert.Kernel.defs₀ (F := F)) = Cert.KernelIdeal.defs₀ := by
  unfold Cert.Kernel.defs₀ Cert.KernelIdeal.defs₀
  refine congrArg Defs.onTc (funext fun l => funext fun a => ?_)
  rcases l with ⟨_ | n, h⟩
  · rfl
  · exact absurd h (Nat.not_lt.2 (Nat.le_add_left _ _))
/-- so the same definitions. -/
theorem defs_eq {F : FTy → Type} [FloatOps F] : (Cert.Kernel.defs (F := F)) = Cert.KernelIdeal.defs := by
  unfold Cert.Kernel.defs Cert.KernelIdeal.defs
  exact congrArg (Pipeline.defs (Cert.KernelIdeal.pcfgs (F := F))) labels_eq

theorem frame_kernel : Cert.quiescent_Kernel := fun m ρ _ => by
  rw [defs_eq]
  exact frame_run (F := Bits) m ρ

theorem frame_ideal : Cert.quiescent_KernelIdeal := fun m ρ _ => frame_run (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_in_range_KernelIdeal.Gen.facts,
    Cert.Pre_in_range_ReferenceIdeal.Gen.facts,
    frame_kernel, frame_ideal, fun m ρ _ => frame_ideal m ρ trivial, frame_reference, fun m ρ _ => frame_reference m ρ trivial, trivial,
    Cert.Moe.value⟩

end Cert.Proof

end
